-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10)
      ∧ r.2.mem ((c.tc : Thread Cert.In.nD Cert.In.τ).loc Cert.In.main_arg11) = m ((c.tc : Thread Cert.In.nD Cert.In.τ).loc Cert.In.main_arg11)
      ∧ r.2.mem ((c.tc : Thread Cert.In.nD Cert.In.τ).loc Cert.In.main_arg12) = m ((c.tc : Thread Cert.In.nD Cert.In.τ).loc Cert.In.main_arg12)
      ∧ r.2.mem ((c.tc : Thread Cert.In.nD Cert.In.τ).loc Cert.In.main_arg13) = m ((c.tc : Thread Cert.In.nD Cert.In.τ).loc Cert.In.main_arg13)
      ∧ r.2.mem ((c.tc : Thread Cert.In.nD Cert.In.τ).loc Cert.In.main_arg14) = m ((c.tc : Thread Cert.In.nD Cert.In.τ).loc Cert.In.main_arg14)
      ∧ r.2.mem ((c.tc : Thread Cert.In.nD Cert.In.τ).loc Cert.In.main_arg15) = m ((c.tc : Thread Cert.In.nD Cert.In.τ).loc Cert.In.main_arg15)
      ∧ r.2.mem ((c.tc : Thread Cert.In.nD Cert.In.τ).loc Cert.In.main_arg16) = m ((c.tc : Thread Cert.In.nD Cert.In.τ).loc Cert.In.main_arg16)
      ∧ r.2.mem ((c.tc : Thread Cert.In.nD Cert.In.τ).loc Cert.In.main_arg17) = m ((c.tc : Thread Cert.In.nD Cert.In.τ).loc Cert.In.main_arg17))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10)
      ∧ r.2.mem ((c.tc : Thread Cert.InIdeal.nD Cert.InIdeal.τ).loc Cert.InIdeal.main_arg11) = m ((c.tc : Thread Cert.InIdeal.nD Cert.InIdeal.τ).loc Cert.InIdeal.main_arg11)
      ∧ r.2.mem ((c.tc : Thread Cert.InIdeal.nD Cert.InIdeal.τ).loc Cert.InIdeal.main_arg12) = m ((c.tc : Thread Cert.InIdeal.nD Cert.InIdeal.τ).loc Cert.InIdeal.main_arg12)
      ∧ r.2.mem ((c.tc : Thread Cert.InIdeal.nD Cert.InIdeal.τ).loc Cert.InIdeal.main_arg13) = m ((c.tc : Thread Cert.InIdeal.nD Cert.InIdeal.τ).loc Cert.InIdeal.main_arg13)
      ∧ r.2.mem ((c.tc : Thread Cert.InIdeal.nD Cert.InIdeal.τ).loc Cert.InIdeal.main_arg14) = m ((c.tc : Thread Cert.InIdeal.nD Cert.InIdeal.τ).loc Cert.InIdeal.main_arg14)
      ∧ r.2.mem ((c.tc : Thread Cert.InIdeal.nD Cert.InIdeal.τ).loc Cert.InIdeal.main_arg15) = m ((c.tc : Thread Cert.InIdeal.nD Cert.InIdeal.τ).loc Cert.InIdeal.main_arg15)
      ∧ r.2.mem ((c.tc : Thread Cert.InIdeal.nD Cert.InIdeal.τ).loc Cert.InIdeal.main_arg16) = m ((c.tc : Thread Cert.InIdeal.nD Cert.InIdeal.τ).loc Cert.InIdeal.main_arg16)
      ∧ r.2.mem ((c.tc : Thread Cert.InIdeal.nD Cert.InIdeal.τ).loc Cert.InIdeal.main_arg17) = m ((c.tc : Thread Cert.InIdeal.nD Cert.InIdeal.τ).loc Cert.InIdeal.main_arg17))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11)
      ∧ r.2.mem ((c.tc : Thread Cert.InRefIdeal.nD Cert.InRefIdeal.τ).loc Cert.InRefIdeal.main_arg12) = m ((c.tc : Thread Cert.InRefIdeal.nD Cert.InRefIdeal.τ).loc Cert.InRefIdeal.main_arg12)
      ∧ r.2.mem ((c.tc : Thread Cert.InRefIdeal.nD Cert.InRefIdeal.τ).loc Cert.InRefIdeal.main_arg13) = m ((c.tc : Thread Cert.InRefIdeal.nD Cert.InRefIdeal.τ).loc Cert.InRefIdeal.main_arg13)
      ∧ r.2.mem ((c.tc : Thread Cert.InRefIdeal.nD Cert.InRefIdeal.τ).loc Cert.InRefIdeal.main_arg14) = m ((c.tc : Thread Cert.InRefIdeal.nD Cert.InRefIdeal.τ).loc Cert.InRefIdeal.main_arg14)
      ∧ r.2.mem ((c.tc : Thread Cert.InRefIdeal.nD Cert.InRefIdeal.τ).loc Cert.InRefIdeal.main_arg15) = m ((c.tc : Thread Cert.InRefIdeal.nD Cert.InRefIdeal.τ).loc Cert.InRefIdeal.main_arg15)
      ∧ r.2.mem ((c.tc : Thread Cert.InRefIdeal.nD Cert.InRefIdeal.τ).loc Cert.InRefIdeal.main_arg16) = m ((c.tc : Thread Cert.InRefIdeal.nD Cert.InRefIdeal.τ).loc Cert.InRefIdeal.main_arg16)
      ∧ r.2.mem ((c.tc : Thread Cert.InRefIdeal.nD Cert.InRefIdeal.τ).loc Cert.InRefIdeal.main_arg17) = m ((c.tc : Thread Cert.InRefIdeal.nD Cert.InRefIdeal.τ).loc Cert.InRefIdeal.main_arg17))
      ∧ r.2.sem = fun _ => 0)

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v12)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v12) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v44) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v16)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v16) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v42) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v66) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v115) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)
      ∧ m' ((c.tc : Thread Cert.InRefIdeal.nD Cert.InRefIdeal.τ).loc Cert.InRefIdeal.main_arg11) = m ((c.tc : Thread Cert.InIdeal.nD Cert.InIdeal.τ).loc Cert.InIdeal.main_arg11)
      ∧ m' ((c.tc : Thread Cert.InRefIdeal.nD Cert.InRefIdeal.τ).loc Cert.InRefIdeal.main_arg12) = m ((c.tc : Thread Cert.InIdeal.nD Cert.InIdeal.τ).loc Cert.InIdeal.main_arg12)
      ∧ m' ((c.tc : Thread Cert.InRefIdeal.nD Cert.InRefIdeal.τ).loc Cert.InRefIdeal.main_arg13) = m ((c.tc : Thread Cert.InIdeal.nD Cert.InIdeal.τ).loc Cert.InIdeal.main_arg13)
      ∧ m' ((c.tc : Thread Cert.InRefIdeal.nD Cert.InRefIdeal.τ).loc Cert.InRefIdeal.main_arg14) = m ((c.tc : Thread Cert.InIdeal.nD Cert.InIdeal.τ).loc Cert.InIdeal.main_arg14)
      ∧ m' ((c.tc : Thread Cert.InRefIdeal.nD Cert.InRefIdeal.τ).loc Cert.InRefIdeal.main_arg15) = m ((c.tc : Thread Cert.InIdeal.nD Cert.InIdeal.τ).loc Cert.InIdeal.main_arg15)
      ∧ m' ((c.tc : Thread Cert.InRefIdeal.nD Cert.InRefIdeal.τ).loc Cert.InRefIdeal.main_arg16) = m ((c.tc : Thread Cert.InIdeal.nD Cert.InIdeal.τ).loc Cert.InIdeal.main_arg16)
      ∧ m' ((c.tc : Thread Cert.InRefIdeal.nD Cert.InRefIdeal.τ).loc Cert.InRefIdeal.main_arg17) = m ((c.tc : Thread Cert.InIdeal.nD Cert.InIdeal.τ).loc Cert.InIdeal.main_arg17)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_2)) (v2 : (c : Dev Cert.InIdeal.nD) → Buf (Elt Ideal) ((c.tc : Thread Cert.InIdeal.nD Cert.InIdeal.τ).loc Cert.InIdeal.main_v0_5)) (v3 : (c : Dev Cert.InIdeal.nD) → Buf (Elt Ideal) ((c.tc : Thread Cert.InIdeal.nD Cert.InIdeal.τ).loc Cert.InIdeal.main_v0_6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_2) = v1 c
          ∧ r.2.mem ((c.tc : Thread Cert.InIdeal.nD Cert.InIdeal.τ).loc Cert.InIdeal.main_v0_5) = v2 c
          ∧ r.2.mem ((c.tc : Thread Cert.InIdeal.nD Cert.InIdeal.τ).loc Cert.InIdeal.main_v0_6) = v3 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10)
          ∧ r.2.mem ((c.tc : Thread Cert.InIdeal.nD Cert.InIdeal.τ).loc Cert.InIdeal.main_arg11) = m ((c.tc : Thread Cert.InIdeal.nD Cert.InIdeal.τ).loc Cert.InIdeal.main_arg11)
          ∧ r.2.mem ((c.tc : Thread Cert.InIdeal.nD Cert.InIdeal.τ).loc Cert.InIdeal.main_arg12) = m ((c.tc : Thread Cert.InIdeal.nD Cert.InIdeal.τ).loc Cert.InIdeal.main_arg12)
          ∧ r.2.mem ((c.tc : Thread Cert.InIdeal.nD Cert.InIdeal.τ).loc Cert.InIdeal.main_arg13) = m ((c.tc : Thread Cert.InIdeal.nD Cert.InIdeal.τ).loc Cert.InIdeal.main_arg13)
          ∧ r.2.mem ((c.tc : Thread Cert.InIdeal.nD Cert.InIdeal.τ).loc Cert.InIdeal.main_arg14) = m ((c.tc : Thread Cert.InIdeal.nD Cert.InIdeal.τ).loc Cert.InIdeal.main_arg14)
          ∧ r.2.mem ((c.tc : Thread Cert.InIdeal.nD Cert.InIdeal.τ).loc Cert.InIdeal.main_arg15) = m ((c.tc : Thread Cert.InIdeal.nD Cert.InIdeal.τ).loc Cert.InIdeal.main_arg15)
          ∧ r.2.mem ((c.tc : Thread Cert.InIdeal.nD Cert.InIdeal.τ).loc Cert.InIdeal.main_arg16) = m ((c.tc : Thread Cert.InIdeal.nD Cert.InIdeal.τ).loc Cert.InIdeal.main_arg16)
          ∧ r.2.mem ((c.tc : Thread Cert.InIdeal.nD Cert.InIdeal.τ).loc Cert.InIdeal.main_arg17) = m ((c.tc : Thread Cert.InIdeal.nD Cert.InIdeal.τ).loc Cert.InIdeal.main_arg17))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v114) = v0 c
          ∧ r.2.mem ((c.tc : Thread Cert.InRefIdeal.nD Cert.InRefIdeal.τ).loc Cert.InRefIdeal.main_v115) = v1 c
          ∧ r.2.mem ((c.tc : Thread Cert.InRefIdeal.nD Cert.InRefIdeal.τ).loc Cert.InRefIdeal.main_v132) = v2 c
          ∧ r.2.mem ((c.tc : Thread Cert.InRefIdeal.nD Cert.InRefIdeal.τ).loc Cert.InRefIdeal.main_v133) = v3 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11)
          ∧ r.2.mem ((c.tc : Thread Cert.InRefIdeal.nD Cert.InRefIdeal.τ).loc Cert.InRefIdeal.main_arg12) = m' ((c.tc : Thread Cert.InRefIdeal.nD Cert.InRefIdeal.τ).loc Cert.InRefIdeal.main_arg12)
          ∧ r.2.mem ((c.tc : Thread Cert.InRefIdeal.nD Cert.InRefIdeal.τ).loc Cert.InRefIdeal.main_arg13) = m' ((c.tc : Thread Cert.InRefIdeal.nD Cert.InRefIdeal.τ).loc Cert.InRefIdeal.main_arg13)
          ∧ r.2.mem ((c.tc : Thread Cert.InRefIdeal.nD Cert.InRefIdeal.τ).loc Cert.InRefIdeal.main_arg14) = m' ((c.tc : Thread Cert.InRefIdeal.nD Cert.InRefIdeal.τ).loc Cert.InRefIdeal.main_arg14)
          ∧ r.2.mem ((c.tc : Thread Cert.InRefIdeal.nD Cert.InRefIdeal.τ).loc Cert.InRefIdeal.main_arg15) = m' ((c.tc : Thread Cert.InRefIdeal.nD Cert.InRefIdeal.τ).loc Cert.InRefIdeal.main_arg15)
          ∧ r.2.mem ((c.tc : Thread Cert.InRefIdeal.nD Cert.InRefIdeal.τ).loc Cert.InRefIdeal.main_arg16) = m' ((c.tc : Thread Cert.InRefIdeal.nD Cert.InRefIdeal.τ).loc Cert.InRefIdeal.main_arg16)
          ∧ r.2.mem ((c.tc : Thread Cert.InRefIdeal.nD Cert.InRefIdeal.τ).loc Cert.InRefIdeal.main_arg17) = m' ((c.tc : Thread Cert.InRefIdeal.nD Cert.InRefIdeal.τ).loc Cert.InRefIdeal.main_arg17))

def Claim : Prop :=
  ∃ (hGqa : Cert.Gqa.Facts) (hGqaIdeal : Cert.GqaIdeal.Facts) (hGqaRefIdeal : Cert.GqaRefIdeal.Facts) (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMod : Cert.Mod.Facts) (hModIdeal : Cert.ModIdeal.Facts) (hModRefIdeal : Cert.ModRefIdeal.Facts) (hIn : Cert.In.Facts) (hInIdeal : Cert.InIdeal.Facts) (hInRefIdeal : Cert.InRefIdeal.Facts) (hPre_gqa_finite : Cert.Pre_gqa_finite.Facts) (hPre_mla_finite : Cert.Pre_mla_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Mod (hMod := hMod)
    ∧ quiescent_ModIdeal (hModIdeal := hModIdeal)
    ∧ quiescent_ModRefIdeal (hModRefIdeal := hModRefIdeal)
    ∧ quiescent_In (hIn := hIn)
    ∧ quiescent_InIdeal (hInIdeal := hInIdeal)
    ∧ quiescent_InRefIdeal (hInRefIdeal := hInRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Mod_ModIdeal
    ∧ algebraic_ModIdeal_ModRefIdeal (hModIdeal := hModIdeal) (hModRefIdeal := hModRefIdeal)
    ∧ preserves_In_InIdeal
    ∧ algebraic_InIdeal_InRefIdeal (hInIdeal := hInIdeal) (hInRefIdeal := hInRefIdeal)
-- ==== Pre_gqa_finite.lean ====
abbrev S8x2304x512 : Shape := ⟨3, ![8, 2304, 512]⟩
abbrev S8x2304x128 : Shape := ⟨3, ![8, 2304, 128]⟩
abbrev S_ : Shape := ⟨0, ![]⟩

class Facts : Prop where
  bcast_S_S8x2304x512 : S_.BroadcastsInDim S8x2304x512 (![] : Fin 0 → Fin S8x2304x512.rank)
  reducesTo_S8x2304x512_S_d0_1_2 : S8x2304x512.ReducesTo [0, 1, 2] S_
  h_S_ : 0 < S_.numel
  bcast_S_S8x2304x128 : S_.BroadcastsInDim S8x2304x128 (![] : Fin 0 → Fin S8x2304x128.rank)
  reducesTo_S8x2304x128_S_d0_1_2 : S8x2304x128.ReducesTo [0, 1, 2] S_

variable [Facts]

def fn {F : FTy → Type} [FloatOps F] (main_arg0 : FVec F S8x2304x512 .f32) (main_arg1 : FVec F S8x2304x128 .f32) (main_arg2 : FVec F S8x2304x128 .f32) : IVec S_ 1 :=
  let main_v0 : FVec F S8x2304x512 .f32 := Host.absf main_arg0
  let main_cst : FVec F S_ .f32 := constant S_ .f32 0x7F800000#32
  let main_v1 : FVec F S8x2304x512 .f32 := broadcastInDim S8x2304x512 ![] bcast_S_S8x2304x512 main_cst
  let main_v2 : IVec S8x2304x512 1 := cmpf .olt main_v0 main_v1
  let main_c : IVec S_ 1 := constantI S_ 1 1#1
  let main_v3 : IVec S_ 1 := (fun x v => Host.reduce IntOp.andi x v reducesTo_S8x2304x512_S_d0_1_2 h_S_) main_v2 main_c
  let main_v4 : FVec F S8x2304x128 .f32 := Host.absf main_arg1
  let main_cst_0 : FVec F S_ .f32 := constant S_ .f32 0x7F800000#32
  let main_v5 : FVec F S8x2304x128 .f32 := broadcastInDim S8x2304x128 ![] bcast_S_S8x2304x128 main_cst_0
  let main_v6 : IVec S8x2304x128 1 := cmpf .olt main_v4 main_v5
  let main_c_1 : IVec S_ 1 := constantI S_ 1 1#1
  let main_v7 : IVec S_ 1 := (fun x v => Host.reduce IntOp.andi x v reducesTo_S8x2304x128_S_d0_1_2 h_S_) main_v6 main_c_1
  let main_v8 : IVec S_ 1 := andi main_v3 main_v7
  main_v8
-- ==== Pre_mla_finite.lean ====
abbrev S8x2304x8x96 : Shape := ⟨4, ![8, 2304, 8, 96]⟩
abbrev S8x2304x8x64 : Shape := ⟨4, ![8, 2304, 8, 64]⟩
abbrev S_ : Shape := ⟨0, ![]⟩

class Facts : Prop where
  bcast_S_S8x2304x8x96 : S_.BroadcastsInDim S8x2304x8x96 (![] : Fin 0 → Fin S8x2304x8x96.rank)
  reducesTo_S8x2304x8x96_S_d0_1_2_3 : S8x2304x8x96.ReducesTo [0, 1, 2, 3] S_
  h_S_ : 0 < S_.numel

variable [Facts]

def fn {F : FTy → Type} [FloatOps F] (main_arg0 : FVec F S8x2304x8x96 .f32) (main_arg1 : FVec F S8x2304x8x96 .f32) (main_arg2 : FVec F S8x2304x8x64 .f32) : IVec S_ 1 :=
  let main_v0 : FVec F S8x2304x8x96 .f32 := Host.absf main_arg0
  let main_cst : FVec F S_ .f32 := constant S_ .f32 0x7F800000#32
  let main_v1 : FVec F S8x2304x8x96 .f32 := broadcastInDim S8x2304x8x96 ![] bcast_S_S8x2304x8x96 main_cst
  let main_v2 : IVec S8x2304x8x96 1 := cmpf .olt main_v0 main_v1
  let main_c : IVec S_ 1 := constantI S_ 1 1#1
  let main_v3 : IVec S_ 1 := (fun x v => Host.reduce IntOp.andi x v reducesTo_S8x2304x8x96_S_d0_1_2_3 h_S_) main_v2 main_c
  let main_v4 : FVec F S8x2304x8x96 .f32 := Host.absf main_arg1
  let main_cst_0 : FVec F S_ .f32 := constant S_ .f32 0x7F800000#32
  let main_v5 : FVec F S8x2304x8x96 .f32 := broadcastInDim S8x2304x8x96 ![] bcast_S_S8x2304x8x96 main_cst_0
  let main_v6 : IVec S8x2304x8x96 1 := cmpf .olt main_v4 main_v5
  let main_c_1 : IVec S_ 1 := constantI S_ 1 1#1
  let main_v7 : IVec S_ 1 := (fun x v => Host.reduce IntOp.andi x v reducesTo_S8x2304x8x96_S_d0_1_2_3 h_S_) main_v6 main_c_1
  let main_v8 : IVec S_ 1 := andi main_v3 main_v7
  main_v8
-- ==== Gqa.lean ====
abbrev S8x2304x512 : Shape := ⟨3, ![8, 2304, 512]⟩
abbrev S8x2304x128 : Shape := ⟨3, ![8, 2304, 128]⟩
abbrev S_ : Shape := ⟨0, ![]⟩
abbrev S8x2304x64 : Shape := ⟨3, ![8, 2304, 64]⟩
abbrev S1x256x512 : Shape := ⟨3, ![1, 256, 512]⟩
abbrev S1x2304x512 : Shape := ⟨3, ![1, 2304, 512]⟩
abbrev S1x256x128 : Shape := ⟨3, ![1, 256, 128]⟩
abbrev S256x128 : Shape := ⟨2, ![256, 128]⟩
abbrev S1x2304x128 : Shape := ⟨3, ![1, 2304, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 18
  | .vmem => 8
  | .smem => 0
  | _ => 0

abbrev bufTy : (tb : Table) → Fin (tcTables nBuf tb) → BufTy
  | .hbm, ⟨0, _⟩ => ⟨S8x2304x512, .f32⟩
  | .hbm, ⟨1, _⟩ => ⟨S8x2304x128, .f32⟩
  | .hbm, ⟨2, _⟩ => ⟨S8x2304x128, .f32⟩
  | .hbm, ⟨3, _⟩ => ⟨S_, .f32⟩
  | .hbm, ⟨4, _⟩ => ⟨S8x2304x64, .f32⟩
  | .hbm, ⟨5, _⟩ => ⟨S_, .f32⟩
  | .hbm, ⟨6, _⟩ => ⟨S8x2304x512, .f32⟩
  | .hbm, ⟨7, _⟩ => ⟨S8x2304x512, .f32⟩
  | .hbm, ⟨8, _⟩ => ⟨S8x2304x512, .bf16⟩
  | .hbm, ⟨9, _⟩ => ⟨S8x2304x64, .f32⟩
  | .hbm, ⟨10, _⟩ => ⟨S8x2304x64, .f32⟩
  | .hbm, ⟨11, _⟩ => ⟨S8x2304x512, .f32⟩
  | .hbm, ⟨12, _⟩ => ⟨S8x2304x512, .bf16⟩
  | .hbm, ⟨13, _⟩ => ⟨S8x2304x64, .f32⟩
  | .hbm, ⟨14, _⟩ => ⟨S8x2304x64, .f32⟩
  | .hbm, ⟨15, _⟩ => ⟨S8x2304x512, .f32⟩
  | .hbm, ⟨16, _⟩ => ⟨S8x2304x512, .bf16⟩
  | .hbm, ⟨17, _⟩ => ⟨S8x2304x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x512, .bf16⟩
  | .local _ .vmem, ⟨3, _⟩ => ⟨S1x2304x512, .bf16⟩
  | .local _ .vmem, ⟨4, _⟩ => ⟨S1x2304x512, .bf16⟩
  | .local _ .vmem, ⟨5, _⟩ => ⟨S1x2304x512, .bf16⟩
  | .local _ .vmem, ⟨6, _⟩ => ⟨S1x256x512, .bf16⟩
  | .local _ .vmem, ⟨7, _⟩ => ⟨S1x256x512, .bf16⟩
  | _, _ => ⟨S8x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GqaRefIdeal.lean ====
abbrev S8x2304x512 : Shape := ⟨3, ![8, 2304, 512]⟩
abbrev S8x2304x128 : Shape := ⟨3, ![8, 2304, 128]⟩
abbrev S8x2304x2x4x64 : Shape := ⟨5, ![8, 2304, 2, 4, 64]⟩
abbrev S8x2304x2x64 : Shape := ⟨4, ![8, 2304, 2, 64]⟩
abbrev S8x2048x2x4x64 : Shape := ⟨5, ![8, 2048, 2, 4, 64]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩
abbrev S8x2048x512 : Shape := ⟨3, ![8, 2048, 512]⟩
abbrev S8x256x2x4x64 : Shape := ⟨5, ![8, 256, 2, 4, 64]⟩
abbrev S8x256x2x64 : Shape := ⟨4, ![8, 256, 2, 64]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x64x4x256 : Shape := ⟨5, ![8, 2, 64, 4, 256]⟩
abbrev S8x256x512 : Shape := ⟨3, ![8, 256, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x2304x512, .f32⟩
  | .hbm, ⟨1, _⟩ => ⟨S8x2304x128, .f32⟩
  | .hbm, ⟨2, _⟩ => ⟨S8x2304x128, .f32⟩
  | .hbm, ⟨3, _⟩ => ⟨S8x2304x2x4x64, .f32⟩
  | .hbm, ⟨4, _⟩ => ⟨S8x2304x2x64, .f32⟩
  | .hbm, ⟨5, _⟩ => ⟨S8x2304x2x64, .f32⟩
  | .hbm, ⟨6, _⟩ => ⟨S8x2048x2x4x64, .f32⟩
  | .hbm, ⟨7, _⟩ => ⟨S8x2x2304x2048x4, .f32⟩
  | .hbm, ⟨8, _⟩ => ⟨S8x2x4x2048x2304, .f32⟩
  | .hbm, ⟨9, _⟩ => ⟨S_, .f32⟩
  | .hbm, ⟨10, _⟩ => ⟨S8x2x4x2048x2304, .f32⟩
  | .hbm, ⟨11, _⟩ => ⟨S8x2x4x2048x2304, .f32⟩
  | .hbm, ⟨12, _⟩ => ⟨S_, .f32⟩
  | .hbm, ⟨13, _⟩ => ⟨S8x2x4x2048, .f32⟩
  | .hbm, ⟨14, _⟩ => ⟨S_, .f32⟩
  | .hbm, ⟨15, _⟩ => ⟨S8x2x4x2048, .f32⟩
  | .hbm, ⟨16, _⟩ => ⟨S8x2x4x2048, .f32⟩
  | .hbm, ⟨17, _⟩ => ⟨S8x2x4x2048x1, .f32⟩
  | .hbm, ⟨18, _⟩ => ⟨S8x2x4x2048x2304, .f32⟩
  | .hbm, ⟨19, _⟩ => ⟨S8x2x4x2048x2304, .f32⟩
  | .hbm, ⟨20, _⟩ => ⟨S8x2x4x2048x2304, .f32⟩
  | .hbm, ⟨21, _⟩ => ⟨S_, .f32⟩
  | .hbm, ⟨22, _⟩ => ⟨S8x2x4x2048, .f32⟩
  | .hbm, ⟨23, _⟩ => ⟨S8x2x4x2048x1, .f32⟩
  | .hbm, ⟨24, _⟩ => ⟨S8x2x4x2048x2304, .f32⟩
  | .hbm, ⟨25, _⟩ => ⟨S8x2x4x2048x2304, .f32⟩
  | .hbm, ⟨26, _⟩ => ⟨S8x2x64x4x2048, .f32⟩
  | .hbm, ⟨27, _⟩ => ⟨S8x2048x2x4x64, .f32⟩
  | .hbm, ⟨28, _⟩ => ⟨S8x2048x512, .f32⟩
  | .hbm, ⟨29, _⟩ => ⟨S8x256x2x4x64, .f32⟩
  | .hbm, ⟨30, _⟩ => ⟨S8x256x2x64, .f32⟩
  | .hbm, ⟨31, _⟩ => ⟨S8x256x2x64, .f32⟩
  | .hbm, ⟨32, _⟩ => ⟨S8x2x256x256x4, .f32⟩
  | .hbm, ⟨33, _⟩ => ⟨S8x2x4x256x256, .f32⟩
  | .hbm, ⟨34, _⟩ => ⟨S_, .f32⟩
  | .hbm, ⟨35, _⟩ => ⟨S8x2x4x256x256, .f32⟩
  | .hbm, ⟨36, _⟩ => ⟨S8x2x4x256x256, .f32⟩
  | .hbm, ⟨37, _⟩ => ⟨S_, .f32⟩
  | .hbm, ⟨38, _⟩ => ⟨S8x2x4x256, .f32⟩
  | .hbm, ⟨39, _⟩ => ⟨S_, .f32⟩
  | .hbm, ⟨40, _⟩ => ⟨S8x2x4x256, .f32⟩
  | .hbm, ⟨41, _⟩ => ⟨S8x2x4x256, .f32⟩
  | .hbm, ⟨42, _⟩ => ⟨S8x2x4x256x1, .f32⟩
  | .hbm, ⟨43, _⟩ => ⟨S8x2x4x256x256, .f32⟩
  | .hbm, ⟨44, _⟩ => ⟨S8x2x4x256x256, .f32⟩
  | .hbm, ⟨45, _⟩ => ⟨S8x2x4x256x256, .f32⟩
  | .hbm, ⟨46, _⟩ => ⟨S_, .f32⟩
  | .hbm, ⟨47, _⟩ => ⟨S8x2x4x256, .f32⟩
  | .hbm, ⟨48, _⟩ => ⟨S8x2x4x256x1, .f32⟩
  | .hbm, ⟨49, _⟩ => ⟨S8x2x4x256x256, .f32⟩
  | .hbm, ⟨50, _⟩ => ⟨S8x2x4x256x256, .f32⟩
  | .hbm, ⟨51, _⟩ => ⟨S8x2x64x4x256, .f32⟩
  | .hbm, ⟨52, _⟩ => ⟨S8x256x2x4x64, .f32⟩
  | .hbm, ⟨53, _⟩ => ⟨S8x256x512, .f32⟩
  | .hbm, ⟨54, _⟩ => ⟨S8x2304x512, .f32⟩
  | .hbm, ⟨55, _⟩ => ⟨S8x2304x512, .bf16⟩
  | _, _ => ⟨S8x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Mla.lean ====
abbrev S8x2304x8x96 : Shape := ⟨4, ![8, 2304, 8, 96]⟩
abbrev S8x2304x8x64 : Shape := ⟨4, ![8, 2304, 8, 64]⟩
abbrev S_ : Shape := ⟨0, ![]⟩
abbrev S8x2304x8x32 : Shape := ⟨4, ![8, 2304, 8, 32]⟩
abbrev S8x2304x4x64 : Shape := ⟨4, ![8, 2304, 4, 64]⟩
abbrev S8x2304x4x128 : Shape := ⟨4, ![8, 2304, 4, 128]⟩
abbrev S8x2304x4x256 : Shape := ⟨4, ![8, 2304, 4, 256]⟩
abbrev S8x2304x1024 : Shape := ⟨3, ![8, 2304, 1024]⟩
abbrev S8x2304x8x128 : Shape := ⟨4, ![8, 2304, 8, 128]⟩
abbrev S8x2304x512 : Shape := ⟨3, ![8, 2304, 512]⟩
abbrev S1x256x1024 : Shape := ⟨3, ![1, 256, 1024]⟩
abbrev S1x2304x1024 : Shape := ⟨3, ![1, 2304, 1024]⟩
abbrev S1x256x512 : Shape := ⟨3, ![1, 256, 512]⟩
abbrev S1x256x128 : Shape := ⟨3, ![1, 256, 128]⟩
abbrev S256x128 : Shape := ⟨2, ![256, 128]⟩
abbrev S1x2304x128 : Shape := ⟨3, ![1, 2304, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x256 : Shape := ⟨2, ![256, 256]⟩

abbrev nBuf : Space → Nat
  | .hbm => 23
  | .vmem => 8
  | .smem => 0
  | _ => 0

abbrev bufTy : (tb : Table) → Fin (tcTables nBuf tb) → BufTy
  | .hbm, ⟨0, _⟩ => ⟨S8x2304x8x96, .f32⟩
  | .hbm, ⟨1, _⟩ => ⟨S8x2304x8x96, .f32⟩
  | .hbm, ⟨2, _⟩ => ⟨S8x2304x8x64, .f32⟩
  | .hbm, ⟨3, _⟩ => ⟨S_, .f32⟩
  | .hbm, ⟨4, _⟩ => ⟨S8x2304x8x32, .f32⟩
  | .hbm, ⟨5, _⟩ => ⟨S_, .f32⟩
  | .hbm, ⟨6, _⟩ => ⟨S8x2304x4x64, .f32⟩
  | .hbm, ⟨7, _⟩ => ⟨S8x2304x4x128, .f32⟩
  | .hbm, ⟨8, _⟩ => ⟨S8x2304x4x64, .f32⟩
  | .hbm, ⟨9, _⟩ => ⟨S8x2304x4x64, .f32⟩
  | .hbm, ⟨10, _⟩ => ⟨S8x2304x4x256, .f32⟩
  | .hbm, ⟨11, _⟩ => ⟨S8x2304x1024, .f32⟩
  | .hbm, ⟨12, _⟩ => ⟨S8x2304x1024, .bf16⟩
  | .hbm, ⟨13, _⟩ => ⟨S_, .f32⟩
  | .hbm, ⟨14, _⟩ => ⟨S8x2304x8x96, .f32⟩
  | .hbm, ⟨15, _⟩ => ⟨S8x2304x8x96, .f32⟩
  | .hbm, ⟨16, _⟩ => ⟨S8x2304x8x128, .f32⟩
  | .hbm, ⟨17, _⟩ => ⟨S8x2304x1024, .f32⟩
  | .hbm, ⟨18, _⟩ => ⟨S8x2304x1024, .bf16⟩
  | .hbm, ⟨19, _⟩ => ⟨S8x2304x8x128, .f32⟩
  | .hbm, ⟨20, _⟩ => ⟨S8x2304x1024, .f32⟩
  | .hbm, ⟨21, _⟩ => ⟨S8x2304x1024, .bf16⟩
  | .hbm, ⟨22, _⟩ => ⟨S8x2304x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2304x1024, .bf16⟩
  | .local _ .vmem, ⟨3, _⟩ => ⟨S1x2304x1024, .bf16⟩
  | .local _ .vmem, ⟨4, _⟩ => ⟨S1x2304x1024, .bf16⟩
  | .local _ .vmem, ⟨5, _⟩ => ⟨S1x2304x1024, .bf16⟩
  | .local _ .vmem, ⟨6, _⟩ => ⟨S1x256x512, .bf16⟩
  | .local _ .vmem, ⟨7, _⟩ => ⟨S1x256x512, .bf16⟩
  | _, _ => ⟨S8x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaRefIdeal.lean ====
abbrev S8x2304x8x96 : Shape := ⟨4, ![8, 2304, 8, 96]⟩
abbrev S8x2304x8x64 : Shape := ⟨4, ![8, 2304, 8, 64]⟩
abbrev S8x2304x8x1x96 : Shape := ⟨5, ![8, 2304, 8, 1, 96]⟩
abbrev S8x2048x8x1x96 : Shape := ⟨5, ![8, 2048, 8, 1, 96]⟩
abbrev S8x8x2304x2048x1 : Shape := ⟨5, ![8, 8, 2304, 2048, 1]⟩
abbrev S8x8x1x2048x2304 : Shape := ⟨5, ![8, 8, 1, 2048, 2304]⟩
abbrev S_ : Shape := ⟨0, ![]⟩
abbrev S8x8x1x2048 : Shape := ⟨4, ![8, 8, 1, 2048]⟩
abbrev S8x8x1x2048x1 : Shape := ⟨5, ![8, 8, 1, 2048, 1]⟩
abbrev S8x8x64x1x2048 : Shape := ⟨5, ![8, 8, 64, 1, 2048]⟩
abbrev S8x2048x8x1x64 : Shape := ⟨5, ![8, 2048, 8, 1, 64]⟩
abbrev S8x2048x512 : Shape := ⟨3, ![8, 2048, 512]⟩
abbrev S8x256x8x1x96 : Shape := ⟨5, ![8, 256, 8, 1, 96]⟩
abbrev S8x256x8x96 : Shape := ⟨4, ![8, 256, 8, 96]⟩
abbrev S8x256x8x64 : Shape := ⟨4, ![8, 256, 8, 64]⟩
abbrev S8x8x256x256x1 : Shape := ⟨5, ![8, 8, 256, 256, 1]⟩
abbrev S8x8x1x256x256 : Shape := ⟨5, ![8, 8, 1, 256, 256]⟩
abbrev S8x8x1x256 : Shape := ⟨4, ![8, 8, 1, 256]⟩
abbrev S8x8x1x256x1 : Shape := ⟨5, ![8, 8, 1, 256, 1]⟩
abbrev S8x8x64x1x256 : Shape := ⟨5, ![8, 8, 64, 1, 256]⟩
abbrev S8x256x8x1x64 : Shape := ⟨5, ![8, 256, 8, 1, 64]⟩
abbrev S8x256x512 : Shape := ⟨3, ![8, 256, 512]⟩
abbrev S8x2304x512 : Shape := ⟨3, ![8, 2304, 512]⟩

abbrev nBuf : Space → Nat
  | .hbm => 54
  | .vmem => 0
  | .smem => 0
  | _ => 0

abbrev bufTy : (tb : Table) → Fin (tcTables nBuf tb) → BufTy
  | .hbm, ⟨0, _⟩ => ⟨S8x2304x8x96, .f32⟩
  | .hbm, ⟨1, _⟩ => ⟨S8x2304x8x96, .f32⟩
  | .hbm, ⟨2, _⟩ => ⟨S8x2304x8x64, .f32⟩
  | .hbm, ⟨3, _⟩ => ⟨S8x2304x8x1x96, .f32⟩
  | .hbm, ⟨4, _⟩ => ⟨S8x2048x8x1x96, .f32⟩
  | .hbm, ⟨5, _⟩ => ⟨S8x8x2304x2048x1, .f32⟩
  | .hbm, ⟨6, _⟩ => ⟨S8x8x1x2048x2304, .f32⟩
  | .hbm, ⟨7, _⟩ => ⟨S_, .f32⟩
  | .hbm, ⟨8, _⟩ => ⟨S8x8x1x2048x2304, .f32⟩
  | .hbm, ⟨9, _⟩ => ⟨S8x8x1x2048x2304, .f32⟩
  | .hbm, ⟨10, _⟩ => ⟨S_, .f32⟩
  | .hbm, ⟨11, _⟩ => ⟨S8x8x1x2048, .f32⟩
  | .hbm, ⟨12, _⟩ => ⟨S_, .f32⟩
  | .hbm, ⟨13, _⟩ => ⟨S8x8x1x2048, .f32⟩
  | .hbm, ⟨14, _⟩ => ⟨S8x8x1x2048, .f32⟩
  | .hbm, ⟨15, _⟩ => ⟨S8x8x1x2048x1, .f32⟩
  | .hbm, ⟨16, _⟩ => ⟨S8x8x1x2048x2304, .f32⟩
  | .hbm, ⟨17, _⟩ => ⟨S8x8x1x2048x2304, .f32⟩
  | .hbm, ⟨18, _⟩ => ⟨S8x8x1x2048x2304, .f32⟩
  | .hbm, ⟨19, _⟩ => ⟨S_, .f32⟩
  | .hbm, ⟨20, _⟩ => ⟨S8x8x1x2048, .f32⟩
  | .hbm, ⟨21, _⟩ => ⟨S8x8x1x2048x1, .f32⟩
  | .hbm, ⟨22, _⟩ => ⟨S8x8x1x2048x2304, .f32⟩
  | .hbm, ⟨23, _⟩ => ⟨S8x8x1x2048x2304, .f32⟩
  | .hbm, ⟨24, _⟩ => ⟨S8x8x64x1x2048, .f32⟩
  | .hbm, ⟨25, _⟩ => ⟨S8x2048x8x1x64, .f32⟩
  | .hbm, ⟨26, _⟩ => ⟨S8x2048x512, .f32⟩
  | .hbm, ⟨27, _⟩ => ⟨S8x256x8x1x96, .f32⟩
  | .hbm, ⟨28, _⟩ => ⟨S8x256x8x96, .f32⟩
  | .hbm, ⟨29, _⟩ => ⟨S8x256x8x64, .f32⟩
  | .hbm, ⟨30, _⟩ => ⟨S8x8x256x256x1, .f32⟩
  | .hbm, ⟨31, _⟩ => ⟨S8x8x1x256x256, .f32⟩
  | .hbm, ⟨32, _⟩ => ⟨S_, .f32⟩
  | .hbm, ⟨33, _⟩ => ⟨S8x8x1x256x256, .f32⟩
  | .hbm, ⟨34, _⟩ => ⟨S8x8x1x256x256, .f32⟩
  | .hbm, ⟨35, _⟩ => ⟨S_, .f32⟩
  | .hbm, ⟨36, _⟩ => ⟨S8x8x1x256, .f32⟩
  | .hbm, ⟨37, _⟩ => ⟨S_, .f32⟩
  | .hbm, ⟨38, _⟩ => ⟨S8x8x1x256, .f32⟩
  | .hbm, ⟨39, _⟩ => ⟨S8x8x1x256, .f32⟩
  | .hbm, ⟨40, _⟩ => ⟨S8x8x1x256x1, .f32⟩
  | .hbm, ⟨41, _⟩ => ⟨S8x8x1x256x256, .f32⟩
  | .hbm, ⟨42, _⟩ => ⟨S8x8x1x256x256, .f32⟩
  | .hbm, ⟨43, _⟩ => ⟨S8x8x1x256x256, .f32⟩
  | .hbm, ⟨44, _⟩ => ⟨S_, .f32⟩
  | .hbm, ⟨45, _⟩ => ⟨S8x8x1x256, .f32⟩
  | .hbm, ⟨46, _⟩ => ⟨S8x8x1x256x1, .f32⟩
  | .hbm, ⟨47, _⟩ => ⟨S8x8x1x256x256, .f32⟩
  | .hbm, ⟨48, _⟩ => ⟨S8x8x1x256x256, .f32⟩
  | .hbm, ⟨49, _⟩ => ⟨S8x8x64x1x256, .f32⟩
  | .hbm, ⟨50, _⟩ => ⟨S8x256x8x1x64, .f32⟩
  | .hbm, ⟨51, _⟩ => ⟨S8x256x512, .f32⟩
  | .hbm, ⟨52, _⟩ => ⟨S8x2304x512, .f32⟩
  | .hbm, ⟨53, _⟩ => ⟨S8x2304x512, .bf16⟩
  | _, _ => ⟨S8x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Ffn.lean ====
abbrev S8x2304x1024 : Shape := ⟨3, ![8, 2304, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 9
  | .vmem => 9
  | .smem => 0
  | _ => 0

abbrev bufTy : (tb : Table) → Fin (tcTables nBuf tb) → BufTy
  | .hbm, ⟨0, _⟩ => ⟨S8x2304x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S8x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x256x1024, .f32⟩
  | .local _ .vmem, ⟨8, _⟩ => ⟨S1x256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c8_i32_0 : BitVec 32 := 8#32
  let v1 : BitVec 32 := Scalar.select v0 c8_i32_0 arg0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S8x2304x1024 : Shape := ⟨3, ![8, 2304, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S8x2048x1024 : Shape := ⟨3, ![8, 2048, 1024]⟩
abbrev S8x6x1024 : Shape := ⟨3, ![8, 6, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x256x1024 : Shape := ⟨3, ![8, 256, 1024]⟩
abbrev S1x6x1024 : Shape := ⟨3, ![1, 6, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x2048x1024, .f32⟩
  | .hbm, ⟨6, _⟩ => ⟨S8x6x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x5632, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S_, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x256x1024, .f32⟩
  | .hbm, ⟨51, _⟩ => ⟨S1x6x1024, .f32⟩
  | .hbm, ⟨52, _⟩ => ⟨S1x1x1024, .f32⟩
  | .hbm, ⟨53, _⟩ => ⟨S1x1x1024, .f32⟩
  | .hbm, ⟨54, _⟩ => ⟨S1x1x1024, .f32⟩
  | .hbm, ⟨55, _⟩ => ⟨S8x256x1024, .f32⟩
  | .hbm, ⟨56, _⟩ => ⟨S_, .f32⟩
  | .hbm, ⟨57, _⟩ => ⟨S8x256, .f32⟩
  | .hbm, ⟨58, _⟩ => ⟨S8x256x1, .f32⟩
  | .hbm, ⟨59, _⟩ => ⟨S_, .f32⟩
  | .hbm, ⟨60, _⟩ => ⟨S8x256x1, .f32⟩
  | .hbm, ⟨61, _⟩ => ⟨S8x256x1, .f32⟩
  | .hbm, ⟨62, _⟩ => ⟨S_, .f32⟩
  | .hbm, ⟨63, _⟩ => ⟨S8x256x1, .f32⟩
  | .hbm, ⟨64, _⟩ => ⟨S8x256x1, .f32⟩
  | .hbm, ⟨65, _⟩ => ⟨S8x256x1, .f32⟩
  | .hbm, ⟨66, _⟩ => ⟨S8x256x1024, .f32⟩
  | .hbm, ⟨67, _⟩ => ⟨S8x256x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S_, .f32⟩
  | .hbm, ⟨72, _⟩ => ⟨S1x1x1024, .f32⟩
  | .hbm, ⟨73, _⟩ => ⟨S1x1x1024, .f32⟩
  | .hbm, ⟨74, _⟩ => ⟨S8x256x1024, .f32⟩
  | .hbm, ⟨75, _⟩ => ⟨S8x256x1024, .f32⟩
  | .hbm, ⟨76, _⟩ => ⟨S8x256x1024, .f32⟩
  | .hbm, ⟨77, _⟩ => ⟨S8x256x1024, .f32⟩
  | .hbm, ⟨78, _⟩ => ⟨S8x256x5632, .f32⟩
  | .hbm, ⟨79, _⟩ => ⟨S8x256x2816, .f32⟩
  | .hbm, ⟨80, _⟩ => ⟨S8x256x2816, .f32⟩
  | .hbm, ⟨81, _⟩ => ⟨S8x256x2816, .f32⟩
  | .hbm, ⟨82, _⟩ => ⟨S8x256x2816, .f32⟩
  | .hbm, ⟨83, _⟩ => ⟨S_, .f32⟩
  | .hbm, ⟨84, _⟩ => ⟨S8x256x2816, .f32⟩
  | .hbm, ⟨85, _⟩ => ⟨S8x256x2816, .f32⟩
  | .hbm, ⟨86, _⟩ => ⟨S_, .f32⟩
  | .hbm, ⟨87, _⟩ => ⟨S8x256x2816, .f32⟩
  | .hbm, ⟨88, _⟩ => ⟨S8x256x2816, .f32⟩
  | .hbm, ⟨89, _⟩ => ⟨S8x256x2816, .f32⟩
  | .hbm, ⟨90, _⟩ => ⟨S8x256x2816, .f32⟩
  | .hbm, ⟨91, _⟩ => ⟨S8x256x1024, .f32⟩
  | .hbm, ⟨92, _⟩ => ⟨S8x256x1024, .f32⟩
  | .hbm, ⟨93, _⟩ => ⟨S8x256x1024, .f32⟩
  | .hbm, ⟨94, _⟩ => ⟨S8x256x1024, .f32⟩
  | .hbm, ⟨95, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Merge.lean ====
abbrev S8x2304x1024 : Shape := ⟨3, ![8, 2304, 1024]⟩
abbrev S16x6x1024 : Shape := ⟨3, ![16, 6, 1024]⟩
abbrev S1024 : Shape := ⟨1, ![1024]⟩
abbrev S8x2304x512 : Shape := ⟨3, ![8, 2304, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1x3072 : Shape := ⟨2, ![1, 3072]⟩
abbrev S1x1024 : Shape := ⟨2, ![1, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x512 : Shape := ⟨2, ![256, 512]⟩

abbrev nBuf : Space → Nat
  | .hbm => 20
  | .vmem => 19
  | .smem => 0
  | _ => 0

abbrev bufTy : (tb : Table) → Fin (tcTables nBuf tb) → BufTy
  | .hbm, ⟨0, _⟩ => ⟨S8x2304x1024, .f32⟩
  | .hbm, ⟨1, _⟩ => ⟨S16x6x1024, .f32⟩
  | .hbm, ⟨2, _⟩ => ⟨S1024, .f32⟩
  | .hbm, ⟨3, _⟩ => ⟨S8x2304x512, .bf16⟩
  | .hbm, ⟨4, _⟩ => ⟨S8x2304x512, .bf16⟩
  | .hbm, ⟨5, _⟩ => ⟨S8x2304x512, .bf16⟩
  | .hbm, ⟨6, _⟩ => ⟨S1024x3072, .f32⟩
  | .hbm, ⟨7, _⟩ => ⟨S3072, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x3072, .bf16⟩
  | .hbm, ⟨13, _⟩ => ⟨S1x3072, .f32⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S8x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1024x3072, .bf16⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x256x1024, .f32⟩
  | .local _ .vmem, ⟨18, _⟩ => ⟨S1x256x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c8_i32_0 : BitVec 32 := 8#32
  let v1 : BitVec 32 := Scalar.select v0 c8_i32_0 arg0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x2304x1024 : Shape := ⟨3, ![8, 2304, 1024]⟩
abbrev S16x6x1024 : Shape := ⟨3, ![16, 6, 1024]⟩
abbrev S1024 : Shape := ⟨1, ![1024]⟩
abbrev S8x2304x512 : Shape := ⟨3, ![8, 2304, 512]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S8x2048x1024 : Shape := ⟨3, ![8, 2048, 1024]⟩
abbrev S8x6x1024 : Shape := ⟨3, ![8, 6, 1024]⟩
abbrev S8x2048x512 : Shape := ⟨3, ![8, 2048, 512]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S1x1x3072 : Shape := ⟨3, ![1, 1, 3072]⟩
abbrev S8x2048x3x1024 : Shape := ⟨4, ![8, 2048, 3, 1024]⟩
abbrev S8x2048x1x1024 : Shape := ⟨4, ![8, 2048, 1, 1024]⟩
abbrev S8x256x1024 : Shape := ⟨3, ![8, 256, 1024]⟩
abbrev S1x6x1024 : Shape := ⟨3, ![1, 6, 1024]⟩
abbrev S8x256x512 : Shape := ⟨3, ![8, 256, 512]⟩
abbrev S8x256 : Shape := ⟨2, ![8, 256]⟩
abbrev S8x256x1 : Shape := ⟨3, ![8, 256, 1]⟩
abbrev S8x256x3072 : Shape := ⟨3, ![8, 256, 3072]⟩
abbrev S8x256x3x1024 : Shape := ⟨4, ![8, 256, 3, 1024]⟩
abbrev S8x256x1x1024 : Shape := ⟨4, ![8, 256, 1, 1024]⟩

abbrev nBuf : Space → Nat
  | .hbm => 140
  | .vmem => 0
  | .smem => 0
  | _ => 0

abbrev hbmTy0_0 (i : Nat) : BufTy := match i % 128 with
  | 0 => ⟨S8x2304x1024, .f32⟩
  | 1 => ⟨S16x6x1024, .f32⟩
  | 2 => ⟨S1024, .f32⟩
  | 3 => ⟨S8x2304x512, .bf16⟩
  | 4 => ⟨S8x2304x512, .bf16⟩
  | 5 => ⟨S8x2304x512, .bf16⟩
  | 6 => ⟨S1024x3072, .f32⟩
  | 7 => ⟨S3072, .f32⟩
  | 8 => ⟨S512x1024, .f32⟩
  | 9 => ⟨S512x1024, .f32⟩
  | 10 => ⟨S512x1024, .f32⟩
  | 11 => ⟨S1024x1024, .f32⟩
  | 12 => ⟨S8x2304x512, .f32⟩
  | 13 => ⟨S8x2304x512, .f32⟩
  | 14 => ⟨S8x2304x512, .f32⟩
  | 15 => ⟨S8x2048x1024, .f32⟩
  | 16 => ⟨S8x6x1024, .f32⟩
  | 17 => ⟨S8x2048x512, .f32⟩
  | 18 => ⟨S8x2048x512, .f32⟩
  | 19 => ⟨S8x2048x512, .f32⟩
  | 20 => ⟨S8x1x1024, .f32⟩
  | 21 => ⟨S8x1x1024, .f32⟩
  | 22 => ⟨S8x1x1024, .f32⟩
  | 23 => ⟨S8x2048x1024, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S_, .f32⟩
  | 31 => ⟨S8x2048x1, .f32⟩
  | 32 => ⟨S8x2048x1, .f32⟩
  | 33 => ⟨S8x2048x1, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | 39 => ⟨S_, .f32⟩
  | 40 => ⟨S8x1x1024, .f32⟩
  | 41 => ⟨S8x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S8x2048x3072, .f32⟩
  | 47 => ⟨S1x1x3072, .f32⟩
  | 48 => ⟨S8x2048x3072, .f32⟩
  | 49 => ⟨S8x2048x3072, .f32⟩
  | 50 => ⟨S8x2048x3072, .f32⟩
  | 51 => ⟨S8x2048x3072, .f32⟩
  | 52 => ⟨S_, .f32⟩
  | 53 => ⟨S8x2048x3072, .f32⟩
  | 54 => ⟨S8x2048x3072, .f32⟩
  | 55 => ⟨S_, .f32⟩
  | 56 => ⟨S8x2048x3072, .f32⟩
  | 57 => ⟨S8x2048x3072, .f32⟩
  | 58 => ⟨S8x2048x3x1024, .f32⟩
  | 59 => ⟨S8x2048x1x1024, .f32⟩
  | 60 => ⟨S8x2048x1024, .f32⟩
  | 61 => ⟨S8x2048x1024, .f32⟩
  | 62 => ⟨S8x2048x1024, .f32⟩
  | 63 => ⟨S8x2048x1x1024, .f32⟩
  | 64 => ⟨S8x2048x1024, .f32⟩
  | 65 => ⟨S8x2048x1024, .f32⟩
  | 66 => ⟨S8x2048x1024, .f32⟩
  | 67 => ⟨S8x2048x1024, .f32⟩
  | 68 => ⟨S8x2048x1x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S8x2048x1024, .f32⟩
  | 74 => ⟨S8x2048x1024, .f32⟩
  | 75 => ⟨S8x2048x1024, .f32⟩
  | 76 => ⟨S8x2048x1024, .f32⟩
  | 77 => ⟨S8x256x1024, .f32⟩
  | 78 => ⟨S1x6x1024, .f32⟩
  | 79 => ⟨S8x256x512, .f32⟩
  | 80 => ⟨S8x256x512, .f32⟩
  | 81 => ⟨S8x256x512, .f32⟩
  | 82 => ⟨S1x1x1024, .f32⟩
  | 83 => ⟨S1x1x1024, .f32⟩
  | 84 => ⟨S1x1x1024, .f32⟩
  | 85 => ⟨S8x256x1024, .f32⟩
  | 86 => ⟨S_, .f32⟩
  | 87 => ⟨S8x256, .f32⟩
  | 88 => ⟨S8x256x1, .f32⟩
  | 89 => ⟨S_, .f32⟩
  | 90 => ⟨S8x256x1, .f32⟩
  | 91 => ⟨S8x256x1, .f32⟩
  | 92 => ⟨S_, .f32⟩
  | 93 => ⟨S8x256x1, .f32⟩
  | 94 => ⟨S8x256x1, .f32⟩
  | 95 => ⟨S8x256x1, .f32⟩
  | 96 => ⟨S8x256x1024, .f32⟩
  | 97 => ⟨S8x256x1024, .f32⟩
  | 98 => ⟨S1x1x1024, .f32⟩
  | 99 => ⟨S8x256x1024, .f32⟩
  | 100 => ⟨S8x256x1024, .f32⟩
  | 101 => ⟨S_, .f32⟩
  | 102 => ⟨S1x1x1024, .f32⟩
  | 103 => ⟨S1x1x1024, .f32⟩
  | 104 => ⟨S8x256x1024, .f32⟩
  | 105 => ⟨S8x256x1024, .f32⟩
  | 106 => ⟨S8x256x1024, .f32⟩
  | 107 => ⟨S8x256x1024, .f32⟩
  | 108 => ⟨S8x256x3072, .f32⟩
  | 109 => ⟨S1x1x3072, .f32⟩
  | 110 => ⟨S8x256x3072, .f32⟩
  | 111 => ⟨S8x256x3072, .f32⟩
  | 112 => ⟨S8x256x3072, .f32⟩
  | 113 => ⟨S8x256x3072, .f32⟩
  | 114 => ⟨S_, .f32⟩
  | 115 => ⟨S8x256x3072, .f32⟩
  | 116 => ⟨S8x256x3072, .f32⟩
  | 117 => ⟨S_, .f32⟩
  | 118 => ⟨S8x256x3072, .f32⟩
  | 119 => ⟨S8x256x3072, .f32⟩
  | 120 => ⟨S8x256x3x1024, .f32⟩
  | 121 => ⟨S8x256x1x1024, .f32⟩
  | 122 => ⟨S8x256x1024, .f32⟩
  | 123 => ⟨S8x256x1024, .f32⟩
  | 124 => ⟨S8x256x1024, .f32⟩
  | 125 => ⟨S8x256x1x1024, .f32⟩
  | 126 => ⟨S8x256x1024, .f32⟩
  | 127 => ⟨S8x256x1024, .f32⟩
  | _ => ⟨S8x2304x1024, .f32⟩

abbrev hbmTy0_1 (i : Nat) : BufTy := match i % 128 with
  | 0 => ⟨S8x256x1024, .f32⟩
  | 1 => ⟨S8x256x1024, .f32⟩
  | 2 => ⟨S8x256x1x1024, .f32⟩
  | 3 => ⟨S8x256x1024, .f32⟩
  | 4 => ⟨S8x256x1024, .f32⟩
  | 5 => ⟨S8x256x1024, .f32⟩
  | 6 => ⟨S8x256x1024, .f32⟩
  | 7 => ⟨S8x256x1024, .f32⟩
  | 8 => ⟨S8x256x1024, .f32⟩
  | 9 => ⟨S8x256x1024, .f32⟩
  | 10 => ⟨S8x256x1024, .f32⟩
  | 11 => ⟨S8x2304x1024, .f32⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_5 : Ref sig .tc := ⟨.hbm, 86, rfl⟩
abbrev main_v68 : Ref sig .tc := ⟨.hbm, 87, rfl⟩
abbrev main_v69 : Ref sig .tc := ⟨.hbm, 88, rfl⟩
abbrev main_cst_6 : Ref sig .tc := ⟨.hbm, 89, rfl⟩
abbrev main_v70 : Ref sig .tc := ⟨.hbm, 90, rfl⟩
abbrev main_v71 : Ref sig .tc := ⟨.hbm, 91, rfl⟩
abbrev main_cst_7 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_9 : Ref sig .tc := ⟨.hbm, 114, rfl⟩
abbrev main_v92 : Ref sig .tc := ⟨.hbm, 115, rfl⟩
abbrev main_v93 : Ref sig .tc := ⟨.hbm, 116, rfl⟩
abbrev main_cst_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩

abbrev nD : Nat := 1
abbrev τ : Topo := Topo.v7x

variable {F : FTy → Type} [FloatOps F]
-- ==== Mod.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x16x6144, .f32⟩
  | .hbm, ⟨29, _⟩ => ⟨S1x16x6144, .f32⟩
  | .hbm, ⟨30, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== In.lean ====
abbrev S8x2304x1024 : Shape := ⟨3, ![8, 2304, 1024]⟩
abbrev S16x6x1024 : Shape := ⟨3, ![16, 6, 1024]⟩
abbrev S1x1024 : Shape := ⟨2, ![1, 1024]⟩
abbrev S1024x2048 : Shape := ⟨2, ![1024, 2048]⟩
abbrev S384x1024 : Shape := ⟨2, ![384, 1024]⟩
abbrev S256x1024 : Shape := ⟨2, ![256, 1024]⟩
abbrev S1x128 : Shape := ⟨2, ![1, 128]⟩
abbrev S1x384 : Shape := ⟨2, ![1, 384]⟩
abbrev S1x256 : Shape := ⟨2, ![1, 256]⟩
abbrev S2304x128 : Shape := ⟨2, ![2304, 128]⟩
abbrev S8x2304x512 : Shape := ⟨3, ![8, 2304, 512]⟩
abbrev S1x256x1024 : Shape := ⟨3, ![1, 256, 1024]⟩
abbrev S1x6x1024 : Shape := ⟨3, ![1, 6, 1024]⟩
abbrev S256x128 : Shape := ⟨2, ![256, 128]⟩
abbrev S1x256x512 : Shape := ⟨3, ![1, 256, 512]⟩
abbrev S6x1024 : Shape := ⟨2, ![6, 1024]⟩
abbrev S256 : Shape := ⟨1, ![256]⟩
abbrev S256x1 : Shape := ⟨2, ![256, 1]⟩
abbrev S256x2048 : Shape := ⟨2, ![256, 2048]⟩
abbrev S1x256x128 : Shape := ⟨3, ![1, 256, 128]⟩
abbrev S256x384 : Shape := ⟨2, ![256, 384]⟩
abbrev S256x256 : Shape := ⟨2, ![256, 256]⟩
abbrev S256x512 : Shape := ⟨2, ![256, 512]⟩

abbrev nBuf : Space → Nat
  | .hbm => 25
  | .vmem => 38
  | .smem => 0
  | _ => 0

abbrev bufTy : (tb : Table) → Fin (tcTables nBuf tb) → BufTy
  | .hbm, ⟨0, _⟩ => ⟨S8x2304x1024, .f32⟩
  | .hbm, ⟨1, _⟩ => ⟨S16x6x1024, .f32⟩
  | .hbm, ⟨2, _⟩ => ⟨S1x1024, .f32⟩
  | .hbm, ⟨3, _⟩ => ⟨S1024x2048, .bf16⟩
  | .hbm, ⟨4, _⟩ => ⟨S384x1024, .bf16⟩
  | .hbm, ⟨5, _⟩ => ⟨S256x1024, .bf16⟩
  | .hbm, ⟨6, _⟩ => ⟨S256x1024, .bf16⟩
  | .hbm, ⟨7, _⟩ => ⟨S1x128, .f32⟩
  | .hbm, ⟨8, _⟩ => ⟨S1x128, .f32⟩
  | .hbm, ⟨9, _⟩ => ⟨S1x384, .f32⟩
  | .hbm, ⟨10, _⟩ => ⟨S1x256, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S2304x128, .f32⟩
  | .hbm, ⟨15, _⟩ => ⟨S2304x128, .f32⟩
  | .hbm, ⟨16, _⟩ => ⟨S2304x128, .f32⟩
  | .hbm, ⟨17, _⟩ => ⟨S2304x128, .f32⟩
  | .hbm, ⟨18, _⟩ => ⟨S8x2304x512, .bf16⟩
  | .hbm, ⟨19, _⟩ => ⟨S8x2304x512, .bf16⟩
  | .hbm, ⟨20, _⟩ => ⟨S8x2304x512, .bf16⟩
  | .hbm, ⟨21, _⟩ => ⟨S8x2304x1024, .bf16⟩
  | .hbm, ⟨22, _⟩ => ⟨S8x2304x1024, .bf16⟩
  | .hbm, ⟨23, _⟩ => ⟨S8x2304x1024, .bf16⟩
  | .hbm, ⟨24, _⟩ => ⟨S8x2304x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S384x1024, .bf16⟩
  | .local _ .vmem, ⟨7, _⟩ => ⟨S256x1024, .bf16⟩
  | .local _ .vmem, ⟨8, _⟩ => ⟨S256x1024, .bf16⟩
  | .local _ .vmem, ⟨9, _⟩ => ⟨S1x128, .f32⟩
  | .local _ .vmem, ⟨10, _⟩ => ⟨S1x128, .f32⟩
  | .local _ .vmem, ⟨11, _⟩ => ⟨S1x384, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x256x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x256x1024, .bf16⟩
  | .local _ .vmem, ⟨33, _⟩ => ⟨S1x256x1024, .bf16⟩
  | .local _ .vmem, ⟨34, _⟩ => ⟨S1x256x1024, .bf16⟩
  | .local _ .vmem, ⟨35, _⟩ => ⟨S1x256x1024, .bf16⟩
  | .local _ .vmem, ⟨36, _⟩ => ⟨S1x256x512, .bf16⟩
  | .local _ .vmem, ⟨37, _⟩ => ⟨S1x256x512, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev main_v0_5 : Ref sig .tc := ⟨.hbm, 23, rfl⟩
abbrev main_v0_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c8_i32_0 : BitVec 32 := 8#32
  let v1 : BitVec 32 := Scalar.select v0 c8_i32_0 arg0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== InRefIdeal.lean ====
abbrev S8x2304x1024 : Shape := ⟨3, ![8, 2304, 1024]⟩
abbrev S16x6x1024 : Shape := ⟨3, ![16, 6, 1024]⟩
abbrev S1x1024 : Shape := ⟨2, ![1, 1024]⟩
abbrev S1024x2048 : Shape := ⟨2, ![1024, 2048]⟩
abbrev S384x1024 : Shape := ⟨2, ![384, 1024]⟩
abbrev S256x1024 : Shape := ⟨2, ![256, 1024]⟩
abbrev S1x128 : Shape := ⟨2, ![1, 128]⟩
abbrev S1x384 : Shape := ⟨2, ![1, 384]⟩
abbrev S1x256 : Shape := ⟨2, ![1, 256]⟩
abbrev S2304x128 : Shape := ⟨2, ![2304, 128]⟩
abbrev S8x2048x1024 : Shape := ⟨3, ![8, 2048, 1024]⟩
abbrev S8x6x1024 : Shape := ⟨3, ![8, 6, 1024]⟩
abbrev S1024 : Shape := ⟨1, ![1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x512 : Shape := ⟨2, ![1024, 512]⟩
abbrev S8x2048x512 : Shape := ⟨3, ![8, 2048, 512]⟩
abbrev S1024x128 : Shape := ⟨2, ![1024, 128]⟩
abbrev S8x2048x128 : Shape := ⟨3, ![8, 2048, 128]⟩
abbrev S1024x256 : Shape := ⟨2, ![1024, 256]⟩
abbrev S8x2048x256 : Shape := ⟨3, ![8, 2048, 256]⟩
abbrev S8x256x1024 : Shape := ⟨3, ![8, 256, 1024]⟩
abbrev S1x6x1024 : Shape := ⟨3, ![1, 6, 1024]⟩
abbrev S8x256 : Shape := ⟨2, ![8, 256]⟩
abbrev S8x256x1 : Shape := ⟨3, ![8, 256, 1]⟩
abbrev S8x256x512 : Shape := ⟨3, ![8, 256, 512]⟩
abbrev S8x256x128 : Shape := ⟨3, ![8, 256, 128]⟩
abbrev S8x256x256 : Shape := ⟨3, ![8, 256, 256]⟩
abbrev S8x2304x512 : Shape := ⟨3, ![8, 2304, 512]⟩
abbrev S8x2304x128 : Shape := ⟨3, ![8, 2304, 128]⟩
abbrev S8x2304x256 : Shape := ⟨3, ![8, 2304, 256]⟩
abbrev S8x2304x4x2x64 : Shape := ⟨5, ![8, 2304, 4, 2, 64]⟩
abbrev S128 : Shape := ⟨1, ![128]⟩
abbrev S2x64 : Shape := ⟨2, ![2, 64]⟩
abbrev S8x2304x4x2 : Shape := ⟨4, ![8, 2304, 4, 2]⟩
abbrev S8x2304x4x2x1 : Shape := ⟨5, ![8, 2304, 4, 2, 1]⟩
abbrev S1x1x1x2x64 : Shape := ⟨5, ![1, 1, 1, 2, 64]⟩
abbrev S8x2304x16x2x16 : Shape := ⟨5, ![8, 2304, 16, 2, 16]⟩
abbrev S8x2304x16x1x16 : Shape := ⟨5, ![8, 2304, 16, 1, 16]⟩
abbrev S8x2304x4x128 : Shape := ⟨4, ![8, 2304, 4, 128]⟩
abbrev S2304x1x128 : Shape := ⟨3, ![2304, 1, 128]⟩
abbrev S1x2304x1x128 : Shape := ⟨4, ![1, 2304, 1, 128]⟩
abbrev S8x2304x64 : Shape := ⟨3, ![8, 2304, 64]⟩
abbrev S256 : Shape := ⟨1, ![256]⟩
abbrev S8x2304 : Shape := ⟨2, ![8, 2304]⟩
abbrev S8x2304x1 : Shape := ⟨3, ![8, 2304, 1]⟩
abbrev S1x1x256 : Shape := ⟨3, ![1, 1, 256]⟩

abbrev nBuf : Space → Nat
  | .hbm => 168
  | .vmem => 0
  | .smem => 0
  | _ => 0

abbrev hbmTy0_0 (i : Nat) : BufTy := match i % 128 with
  | 0 => ⟨S8x2304x1024, .f32⟩
  | 1 => ⟨S16x6x1024, .f32⟩
  | 2 => ⟨S1x1024, .f32⟩
  | 3 => ⟨S1024x2048, .bf16⟩
  | 4 => ⟨S384x1024, .bf16⟩
  | 5 => ⟨S256x1024, .bf16⟩
  | 6 => ⟨S256x1024, .bf16⟩
  | 7 => ⟨S1x128, .f32⟩
  | 8 => ⟨S1x128, .f32⟩
  | 9 => ⟨S1x384, .f32⟩
  | 10 => ⟨S1x256, .f32⟩
  | 11 => ⟨S1x128, .f32⟩
  | 12 => ⟨S1x128, .f32⟩
  | 13 => ⟨S1x128, .f32⟩
  | 14 => ⟨S2304x128, .f32⟩
  | 15 => ⟨S2304x128, .f32⟩
  | 16 => ⟨S2304x128, .f32⟩
  | 17 => ⟨S2304x128, .f32⟩
  | 18 => ⟨S8x2048x1024, .f32⟩
  | 19 => ⟨S8x6x1024, .f32⟩
  | 20 => ⟨S1024, .f32⟩
  | 21 => ⟨S8x1x1024, .f32⟩
  | 22 => ⟨S8x1x1024, .f32⟩
  | 23 => ⟨S8x2048x1024, .f32⟩
  | 24 => ⟨S_, .f32⟩
  | 25 => ⟨S8x2048, .f32⟩
  | 26 => ⟨S8x2048x1, .f32⟩
  | 27 => ⟨S_, .f32⟩
  | 28 => ⟨S8x2048x1, .f32⟩
  | 29 => ⟨S8x2048x1, .f32⟩
  | 30 => ⟨S_, .f32⟩
  | 31 => ⟨S8x2048x1, .f32⟩
  | 32 => ⟨S8x2048x1, .f32⟩
  | 33 => ⟨S8x2048x1, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | 39 => ⟨S_, .f32⟩
  | 40 => ⟨S8x1x1024, .f32⟩
  | 41 => ⟨S8x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S1024x512, .bf16⟩
  | 47 => ⟨S1024x512, .f32⟩
  | 48 => ⟨S8x2048x512, .f32⟩
  | 49 => ⟨S1024x128, .bf16⟩
  | 50 => ⟨S1024x128, .f32⟩
  | 51 => ⟨S8x2048x128, .f32⟩
  | 52 => ⟨S1024x256, .bf16⟩
  | 53 => ⟨S1024x256, .f32⟩
  | 54 => ⟨S8x2048x256, .f32⟩
  | 55 => ⟨S1024x512, .bf16⟩
  | 56 => ⟨S1024x512, .f32⟩
  | 57 => ⟨S8x2048x512, .f32⟩
  | 58 => ⟨S8x256x1024, .f32⟩
  | 59 => ⟨S1x6x1024, .f32⟩
  | 60 => ⟨S1024, .f32⟩
  | 61 => ⟨S1x1x1024, .f32⟩
  | 62 => ⟨S1x1x1024, .f32⟩
  | 63 => ⟨S8x256x1024, .f32⟩
  | 64 => ⟨S_, .f32⟩
  | 65 => ⟨S8x256, .f32⟩
  | 66 => ⟨S8x256x1, .f32⟩
  | 67 => ⟨S_, .f32⟩
  | 68 => ⟨S8x256x1, .f32⟩
  | 69 => ⟨S8x256x1, .f32⟩
  | 70 => ⟨S_, .f32⟩
  | 71 => ⟨S8x256x1, .f32⟩
  | 72 => ⟨S8x256x1, .f32⟩
  | 73 => ⟨S8x256x1, .f32⟩
  | 74 => ⟨S8x256x1024, .f32⟩
  | 75 => ⟨S8x256x1024, .f32⟩
  | 76 => ⟨S1x1x1024, .f32⟩
  | 77 => ⟨S8x256x1024, .f32⟩
  | 78 => ⟨S8x256x1024, .f32⟩
  | 79 => ⟨S_, .f32⟩
  | 80 => ⟨S1x1x1024, .f32⟩
  | 81 => ⟨S1x1x1024, .f32⟩
  | 82 => ⟨S8x256x1024, .f32⟩
  | 83 => ⟨S8x256x1024, .f32⟩
  | 84 => ⟨S8x256x1024, .f32⟩
  | 85 => ⟨S8x256x1024, .f32⟩
  | 86 => ⟨S1024x512, .bf16⟩
  | 87 => ⟨S1024x512, .f32⟩
  | 88 => ⟨S8x256x512, .f32⟩
  | 89 => ⟨S1024x128, .bf16⟩
  | 90 => ⟨S1024x128, .f32⟩
  | 91 => ⟨S8x256x128, .f32⟩
  | 92 => ⟨S1024x256, .bf16⟩
  | 93 => ⟨S1024x256, .f32⟩
  | 94 => ⟨S8x256x256, .f32⟩
  | 95 => ⟨S1024x512, .bf16⟩
  | 96 => ⟨S1024x512, .f32⟩
  | 97 => ⟨S8x256x512, .f32⟩
  | 98 => ⟨S8x2304x512, .f32⟩
  | 99 => ⟨S8x2304x128, .f32⟩
  | 100 => ⟨S8x2304x256, .f32⟩
  | 101 => ⟨S8x2304x512, .f32⟩
  | 102 => ⟨S8x2304x4x2x64, .f32⟩
  | 103 => ⟨S128, .f32⟩
  | 104 => ⟨S2x64, .f32⟩
  | 105 => ⟨S8x2304x4x2x64, .f32⟩
  | 106 => ⟨S_, .f32⟩
  | 107 => ⟨S8x2304x4x2, .f32⟩
  | 108 => ⟨S8x2304x4x2x1, .f32⟩
  | 109 => ⟨S_, .f32⟩
  | 110 => ⟨S8x2304x4x2x1, .f32⟩
  | 111 => ⟨S8x2304x4x2x1, .f32⟩
  | 112 => ⟨S_, .f32⟩
  | 113 => ⟨S8x2304x4x2x1, .f32⟩
  | 114 => ⟨S8x2304x4x2x1, .f32⟩
  | 115 => ⟨S8x2304x4x2x1, .f32⟩
  | 116 => ⟨S8x2304x4x2x64, .f32⟩
  | 117 => ⟨S8x2304x4x2x64, .f32⟩
  | 118 => ⟨S1x1x1x2x64, .f32⟩
  | 119 => ⟨S8x2304x4x2x64, .f32⟩
  | 120 => ⟨S8x2304x4x2x64, .f32⟩
  | 121 => ⟨S8x2304x16x2x16, .f32⟩
  | 122 => ⟨S8x2304x16x1x16, .f32⟩
  | 123 => ⟨S8x2304x16x1x16, .f32⟩
  | 124 => ⟨S8x2304x16x2x16, .f32⟩
  | 125 => ⟨S8x2304x4x128, .f32⟩
  | 126 => ⟨S8x2304x4x128, .f32⟩
  | 127 => ⟨S2304x1x128, .f32⟩
  | _ => ⟨S8x2304x1024, .f32⟩

abbrev hbmTy0_1 (i : Nat) : BufTy := match i % 128 with
  | 0 => ⟨S1x2304x1x128, .f32⟩
  | 1 => ⟨S8x2304x4x128, .f32⟩
  | 2 => ⟨S8x2304x4x128, .f32⟩
  | 3 => ⟨S2304x1x128, .f32⟩
  | 4 => ⟨S1x2304x1x128, .f32⟩
  | 5 => ⟨S8x2304x4x128, .f32⟩
  | 6 => ⟨S8x2304x4x128, .f32⟩
  | 7 => ⟨S8x2304x4x128, .f32⟩
  | 8 => ⟨S_, .f32⟩
  | 9 => ⟨S8x2304x4x128, .f32⟩
  | 10 => ⟨S8x2304x4x128, .f32⟩
  | 11 => ⟨S8x2304x64, .f32⟩
  | 12 => ⟨S8x2304x64, .f32⟩
  | 13 => ⟨S_, .f32⟩
  | 14 => ⟨S8x2304x64, .f32⟩
  | 15 => ⟨S8x2304x512, .f32⟩
  | 16 => ⟨S8x2304x512, .f32⟩
  | 17 => ⟨S8x2304x512, .bf16⟩
  | 18 => ⟨S8x2304x512, .bf16⟩
  | 19 => ⟨S256, .f32⟩
  | 20 => ⟨S8x2304x256, .f32⟩
  | 21 => ⟨S_, .f32⟩
  | 22 => ⟨S8x2304, .f32⟩
  | 23 => ⟨S8x2304x1, .f32⟩
  | 24 => ⟨S_, .f32⟩
  | 25 => ⟨S8x2304x1, .f32⟩
  | 26 => ⟨S8x2304x1, .f32⟩
  | 27 => ⟨S_, .f32⟩
  | 28 => ⟨S8x2304x1, .f32⟩
  | 29 => ⟨S8x2304x1, .f32⟩
  | 30 => ⟨S8x2304x1, .f32⟩
  | 31 => ⟨S8x2304x256, .f32⟩
  | 32 => ⟨S8x2304x256, .f32⟩
  | 33 => ⟨S1x1x256, .f32⟩
  | 34 => ⟨S8x2304x256, .f32⟩
  | 35 => ⟨S8x2304x256, .f32⟩
  | 36 => ⟨S256x1024, .f32⟩
  | 37 => ⟨S8x2304x1024, .f32⟩
  | 38 => ⟨S8x2304x1024, .bf16⟩
  | 39 => ⟨S8x2304x512, .bf16⟩
  | _ => ⟨S8x2304x1024, .f32⟩

abbrev hbmTy (i : Nat) : BufTy := match i / 128 with
  | 0 => hbmTy0_0 i
  | 1 => hbmTy0_1 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_6 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_7 : Ref sig .tc := ⟨.hbm, 106, rfl⟩
abbrev main_v80 : Ref sig .tc := ⟨.hbm, 107, rfl⟩
abbrev main_v81 : Ref sig .tc := ⟨.hbm, 108, rfl⟩
abbrev main_cst_8 : Ref sig .tc := ⟨.hbm, 109, rfl⟩
abbrev main_v82 : Ref sig .tc := ⟨.hbm, 110, rfl⟩
abbrev main_v83 : Ref sig .tc := ⟨.hbm, 111, rfl⟩
abbrev main_cst_9 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_10 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_11 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_12 : Ref sig .tc := ⟨.hbm, 149, rfl⟩
abbrev main_v118 : Ref sig .tc := ⟨.hbm, 150, rfl⟩
abbrev main_v119 : Ref sig .tc := ⟨.hbm, 151, rfl⟩
abbrev main_cst_13 : Ref sig .tc := ⟨.hbm, 152, rfl⟩
abbrev main_v120 : Ref sig .tc := ⟨.hbm, 153, rfl⟩
abbrev main_v121 : Ref sig .tc := ⟨.hbm, 154, rfl⟩
abbrev main_cst_14 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩

abbrev nD : Nat := 1
abbrev τ : Topo := Topo.v7x

variable {F : FTy → Type} [FloatOps F]
-- ==== Proof.Softmax.lean ====
/-
  Rows of extended reals, as the two attentions treat them: a row of scores is shifted by its greatest entry and
  exponentiated, the weights are summed, and a row of values is averaged with them. The kernel divides the
  average by the sum of the weights at the end, the reference divides every weight first; for a row of real
  scores the two are one number, whatever the values are.
-/
module

public import Idealize.ShloMosaic.Lib.Pointwise

@[expose] public section

noncomputable section

namespace Attn

open Idealize.ShloMosaic

/-- An extended real that is a real number. -/
def IsReal (x : EReal) : Prop := ∃ r : ℝ, x = (r : EReal)

/-- A product of real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is one. -/
theorem IsReal.sum {n : ℕ} {f : Fin n → EReal} (h : ∀ i, IsReal (f i)) : IsReal (∑ i, f i) := by
  choose g hg using h
  refine ⟨∑ i, g i, ?_⟩
  simp only [hg]
  induction (Finset.univ : Finset (Fin n)) using Finset.cons_induction with
  | empty => simp
  | cons a s ha ih => rw [Finset.sum_cons, Finset.sum_cons, ih, EReal.coe_add]

/-- What is below `⊤` in absolute value is a real number. -/
theorem isReal_of_abs_lt {x : EReal} (h : max x (-x) < ⊤) : IsReal x := by
  induction x with
  | bot => simp at h
  | top => simp at h
  | coe r => exact ⟨r, rfl⟩

/-- The greatest entry of a row of scores, as a maximum started at `-∞`. -/
def peak {n : ℕ} (s : Fin n → EReal) : EReal := Finset.univ.fold max (Ideal.ofBits .f32 0xFF800000#32) s

/-- The weight of entry `k`: the exponential of its score, shifted by the row's greatest. -/
def weight {n : ℕ} (s : Fin n → EReal) (k : Fin n) : EReal := Ideal.exp (s k - peak s)

/-- The sum of a row's weights. -/
def mass {n : ℕ} (s : Fin n → EReal) : EReal := ∑ k, weight s k

/-- The kernel's average: weighted sum of the values, then one division. -/
def late {n : ℕ} (s v : Fin n → EReal) : EReal := Ideal.div (∑ k, weight s k * v k) (mass s)

/-- The reference's average: every weight divided first. -/
def early {n : ℕ} (s v : Fin n → EReal) : EReal := ∑ k, Ideal.div (weight s k) (mass s) * v k

/-- The pattern the maximum starts at denotes `-∞`. -/
theorem start_eq : Ideal.ofBits .f32 0xFF800000#32 = ⊥ := by simp [Ideal.ofBits, Ideal.ieee]

/-- Starting the maximum once more at `-∞` changes nothing. -/
theorem max_start_peak {n : ℕ} (s : Fin n → EReal) : max (Ideal.ofBits .f32 0xFF800000#32) (peak s) = peak s := by
  rw [start_eq]; exact max_eq_right bot_le

/-- The reference's maximum over the last of five axes is the greatest entry of the row. -/
theorem reduce_last {n0 n1 n2 n3 n4 : ℕ} {u : Shape} (S : FVec Ideal ⟨5, ![n0, n1, n2, n3, n4]⟩ .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf S (constant u .f32 0xFF800000#32) h hu (ix4 a b c d) = peak fun n => S (ix5 a b c d n) := by
  rw [Host.reduce_eq_fold, Shape.ReducesTo.fold_fiber_r5_a4]
  rfl

/-- A maximum of two arrays, at an index. -/
theorem maximumf_at {s : Shape} (x y : FVec Ideal s .f32) (i : s.Idx) : maximumf x y i = max (x i) (y i) := rfl

/-- The greatest entry of a nonempty row of real numbers is a real number. -/
theorem isReal_peak {n : ℕ} (hn : 0 < n) {s : Fin n → EReal} (h : ∀ k, IsReal (s k)) : IsReal (peak s) := by
  have key : ∀ t : Finset (Fin n), t.fold max ⊥ s = ⊥ ∧ t = ∅ ∨ IsReal (t.fold max ⊥ s) := by
    intro t
    induction t using Finset.cons_induction with
    | empty => exact .inl ⟨rfl, rfl⟩
    | cons a t ha ih =>
      right
      rw [Finset.fold_cons]
      obtain ⟨r, hr⟩ := h a
      rcases ih with ⟨e, -⟩ | ⟨u, hu⟩
      · rw [e, hr]; exact ⟨r, max_eq_left bot_le⟩
      · rw [hr, hu]; exact ⟨max r u, (EReal.coe_strictMono.monotone.map_max).symm⟩
  unfold peak
  rw [start_eq]
  rcases key Finset.univ with ⟨-, e⟩ | hr
  · exact absurd (Finset.mem_univ (⟨0, hn⟩ : Fin n)) (by rw [e]; simp)
  · exact hr

/-- Every weight of a nonempty row of real scores is a positive real number. -/
theorem weight_pos {n : ℕ} (hn : 0 < n) {s : Fin n → EReal} (h : ∀ k, IsReal (s k)) (k : Fin n) :
    ∃ r : ℝ, 0 < r ∧ weight s k = (r : EReal) := by
  obtain ⟨a, ha⟩ := h k
  obtain ⟨b, hb⟩ := isReal_peak hn h
  refine ⟨Real.exp (a - b), Real.exp_pos _, ?_⟩
  unfold weight
  rw [ha, hb, ← EReal.coe_sub, Ideal.exp_coe]

/-- So their sum is a positive real number. -/
theorem mass_pos {n : ℕ} (hn : 0 < n) {s : Fin n → EReal} (h : ∀ k, IsReal (s k)) :
    ∃ r : ℝ, 0 < r ∧ mass s = (r : EReal) := by
  choose w hw hs using fun k => weight_pos hn h k
  refine ⟨∑ k, w k, Finset.sum_pos (fun k _ => hw k) ⟨⟨0, hn⟩, Finset.mem_univ _⟩, ?_⟩
  unfold mass
  simp only [hs]
  induction (Finset.univ : Finset (Fin n)) using Finset.cons_induction with
  | empty => simp
  | cons a t ha ih => rw [Finset.sum_cons, Finset.sum_cons, ih, EReal.coe_add]

/-- Multiplication by a nonnegative real number distributes over any finite sum of extended reals. -/
theorem sum_mul_coe {n : ℕ} (f : Fin n → EReal) {c : ℝ} (hc : 0 ≤ c) :
    (∑ k, f k) * (c : EReal) = ∑ k, f k * (c : EReal) := by
  induction (Finset.univ : Finset (Fin n)) using Finset.cons_induction with
  | empty => simp
  | cons a t ha ih =>
    rw [Finset.sum_cons, Finset.sum_cons, ← ih,
      EReal.right_distrib_of_nonneg_of_ne_top (EReal.coe_nonneg.2 hc) (EReal.coe_ne_top c)]

/-- THE TWO AVERAGES ARE ONE for a nonempty row of real scores, whatever the values. -/
theorem late_eq_early {n : ℕ} (hn : 0 < n) {s : Fin n → EReal} (h : ∀ k, IsReal (s k)) (v : Fin n → EReal) :
    late s v = early s v := by
  obtain ⟨r, hr, e⟩ := mass_pos hn h
  unfold late early
  simp only [e, Ideal.div_coe hr.ne']
  rw [sum_mul_coe _ (by positivity)]
  exact Finset.sum_congr rfl fun k _ => mul_right_comm _ _ _

/-- The average of a row of zeros is zero. -/
theorem late_zero {n : ℕ} (hn : 0 < n) {s : Fin n → EReal} (h : ∀ k, IsReal (s k)) {v : Fin n → EReal}
    (hv : ∀ k, v k = 0) : late s v = 0 := by
  obtain ⟨r, hr, e⟩ := mass_pos hn h
  unfold late
  simp only [e, hv, mul_zero, Finset.sum_const_zero, Ideal.div_coe hr.ne', zero_mul]

/-- Two averages whose values are nonzero in one of them only: the other one remains. -/
theorem late_add_zero {n : ℕ} (hn : 0 < n) {s s' : Fin n → EReal} (h : ∀ k, IsReal (s k)) (h' : ∀ k, IsReal (s' k))
    {v v' : Fin n → EReal} (hv : ∀ k, v' k = 0) : late s v + late s' v' = early s v := by
  rw [late_zero hn h' hv, add_zero, late_eq_early hn h]

/-- The same with the zeros in the first average. -/
theorem zero_add_late {n : ℕ} (hn : 0 < n) {s s' : Fin n → EReal} (h : ∀ k, IsReal (s k)) (h' : ∀ k, IsReal (s' k))
    {v v' : Fin n → EReal} (hv : ∀ k, v k = 0) : late s v + late s' v' = early s' v' := by
  rw [late_zero hn h hv, zero_add, late_eq_early hn h']

/-- A score whose query was scaled first is the scaled score. -/
theorem scaled_dot {n : ℕ} (q k : Fin n → EReal) {c : ℝ} (hc : 0 ≤ c) :
    ∑ d, q d * (c : EReal) * k d = (∑ d, k d * q d) * (c : EReal) := by
  rw [sum_mul_coe _ hc]
  refine Finset.sum_congr rfl fun d _ => ?_
  rw [mul_right_comm, mul_comm (q d)]

end Attn

end
-- ==== Proof.GqaBlock.lean ====
/-
  What one grid point of the grouped-query attention leaves in its output block: at row `r`, in the lanes of pair
  `p`, the sum of the averages of heads `2p` and `2p + 1`, read from the lanes those heads have in the three blocks.
-/
module

public import proofs.«01_k».proof.Proof.Softmax
public import proofs.«01_k».proof.Proof.Gen.GqaIdeal.Value
public import Idealize.ShloMosaic.Lib.Pipeline.ValueKit
public import Idealize.ShloMosaic.Lib.Pointwise

@[expose] public section

set_option maxRecDepth 16384

noncomputable section

namespace Cert.GqaIdeal.Block

open Cert.GqaIdeal Cert.GqaIdeal.Gen Attn Idealize.ShloMosaic Idealize.ShloMosaic.TcCoe Idealize.SL.Sem

variable (m : (ℓ : Loc nD τ sig) → Buf (Elt Ideal) ℓ)

/-- Head `h` of a block at row `r`, lane `l` of its 128: queries in the lanes of the head's pair, keys and values
    in the lanes of its form, over the `n` keys from key `s` on. -/
def head (n s : ℕ) (hs : s + n ≤ 2304) (Q : FVec Ideal S1x256x512 .bf16) (K V : FVec Ideal S1x2304x512 .bf16)
    (r : Fin 256) (h : Fin 8) (l : Fin 128) : EReal :=
  late (fun k : Fin n => ∑ d : Fin 128, Q (ix3 0 r ⟨128 * (h.val / 2) + d.val, by omega⟩)
      * K (ix3 0 ⟨s + k.val, by omega⟩ ⟨256 * (h.val / 4) + 128 * (h.val % 2) + d.val, by omega⟩))
    (fun k => V (ix3 0 ⟨s + k.val, by omega⟩ ⟨256 * (h.val / 4) + 128 * (h.val % 2) + l.val, by omega⟩))

/-- A latent tile sees every key. -/
theorem latent (c : Dev nD) (t : Fin cfg0.N) (c0 : t.val % 9 ≤ 7) (c1 : ¬t.val % 9 = 8) (y : S1x256x512.Idx)
    (p : Fin 4) (l : Fin 128) (hy : (y 2 : ℕ) = 128 * p + l) :
    outsAt0 m c t.val t.isLt y
      = head 2304 0 (by omega) (iblk m c 0 t) (iblk m c 1 t) (iblk m c 2 t) (y 1) ⟨2 * p, by omega⟩ l
        + head 2304 0 (by omega) (iblk m c 0 t) (iblk m c 1 t) (iblk m c 2 t) (y 1) ⟨2 * p + 1, by omega⟩ l := by
  rw [outsAt0_A m c t c0 c1]
  unfold head late mass weight peak
  frame_out
  canon_tiles x h
  all_goals (open_payloads; pointwise; blk_point [iblk])

/-- The context tile sees the 256 context keys. -/
theorem context (c : Dev nD) (t : Fin cfg0.N) (c0 : ¬t.val % 9 ≤ 7) (c1 : t.val % 9 = 8) (y : S1x256x512.Idx)
    (p : Fin 4) (l : Fin 128) (hy : (y 2 : ℕ) = 128 * p + l) :
    outsAt0 m c t.val t.isLt y
      = head 256 2048 (by omega) (iblk m c 0 t) (iblk m c 1 t) (iblk m c 2 t) (y 1) ⟨2 * p, by omega⟩ l
        + head 256 2048 (by omega) (iblk m c 0 t) (iblk m c 1 t) (iblk m c 2 t) (y 1) ⟨2 * p + 1, by omega⟩ l := by
  rw [outsAt0_B m c t c0 c1]
  unfold head late mass weight peak
  frame_out
  canon_tiles x h
  all_goals (open_payloads; pointwise; blk_point [iblk])

end Cert.GqaIdeal.Block

end
-- ==== Proof.GqaOperands.lean ====
/-
  What the grouped-query attention's call finds in its three operands: the scaled queries, and the keys and the
  values spread over the lanes, each key head once in the lower and once in the upper half of 128 lanes.
-/
module

public import proofs.«01_k».proof.Proof.Gen.GqaIdeal.Value
public import Idealize.ShloMosaic.Lib.Pipeline.ValueKit
public import Idealize.ShloMosaic.Lib.Pointwise
public import Idealize.ShloMosaic.Lib.Claim

@[expose] public section

set_option maxRecDepth 16384

noncomputable section

namespace Cert.GqaIdeal.Operands

open Cert.GqaIdeal Cert.GqaIdeal.Gen Idealize.ShloMosaic Idealize.ShloMosaic.TcCoe Idealize.SL.Sem

/-- `forms` of an array of two heads of 64 lanes. -/
def forms (x : FVec Ideal S8x2304x128 .f32) : FVec Ideal S8x2304x512 .bf16 :=
  truncf (F := Ideal) .bf16 (concatenate S8x2304x512 2
        [⟨S8x2304x64, extractStridedSlice S8x2304x64 ![0, 0, 0] x slices_S8x2304x128_S8x2304x64_0_0_0⟩, ⟨S8x2304x64, broadcastInDim S8x2304x64 ![] bcast_S_S8x2304x64 (constant (F := Ideal) S_ .f32 0x00000000#32)⟩, ⟨S8x2304x64, broadcastInDim S8x2304x64 ![] bcast_S_S8x2304x64 (constant (F := Ideal) S_ .f32 0x00000000#32)⟩,
         ⟨S8x2304x64, extractStridedSlice S8x2304x64 ![0, 0, 0] x slices_S8x2304x128_S8x2304x64_0_0_0⟩,
         ⟨S8x2304x64, extractStridedSlice S8x2304x64 ![0, 0, 64] x slices_S8x2304x128_S8x2304x64_0_0_64⟩, ⟨S8x2304x64, broadcastInDim S8x2304x64 ![] bcast_S_S8x2304x64 (constant (F := Ideal) S_ .f32 0x00000000#32)⟩, ⟨S8x2304x64, broadcastInDim S8x2304x64 ![] bcast_S_S8x2304x64 (constant (F := Ideal) S_ .f32 0x00000000#32)⟩,
         ⟨S8x2304x64, extractStridedSlice S8x2304x64 ![0, 0, 64] x slices_S8x2304x128_S8x2304x64_0_0_64⟩] concatenates_S8x2304x64_S8x2304x64_S8x2304x64_S8x2304x64_S8x2304x64_S8x2304x64_S8x2304x64_S8x2304x64_S8x2304x512_d2) bitsLt_bf16_f32

/-- Lane `d` of the 128 that head `h` reads: its key head's lane in the half of the head's parity, zero in the other. -/
theorem forms_at (x : FVec Ideal S8x2304x128 .f32) (b : Fin 8) (t : Fin 2304) (h : Fin 8) (d : Fin 128) :
    forms x
      (ix3 b t ⟨256 * (h.val / 4) + 128 * (h.val % 2) + d.val, by omega⟩)
      = if d.val / 64 = h.val % 2 then x (ix3 b t ⟨64 * (h.val / 4) + d.val % 64, by omega⟩) else 0 := by
  pointwise [forms]
  by_cases e : d.val / 64 = h.val % 2
  · rw [if_pos e]
    split_ifs
    all_goals first
      | (exfalso; omega)
      | (refine congrArg x ((ix3_inj ..).2 ⟨rfl, rfl, Fin.ext ?_⟩); dsimp only; omega)
  · rw [if_neg e]
    split_ifs
    all_goals first
      | rfl
      | (exfalso; omega)

variable (m : (ℓ : Loc nD τ sig) → Buf (Elt Ideal) ℓ)

/-- The query operand: the query argument times the attention's scale. -/
theorem query_at (c : Dev nD) (i : S8x2304x512.Idx) :
    V m c main_v3 i = (show FVec Ideal S8x2304x512 .f32 from m ((c : Thread nD τ).loc main_arg0)) i * Ideal.ofBits .f32 0x3E000000#32 := rfl

/-- The key operand: the key argument in `forms`. -/
theorem keys (c : Dev nD) : V m c main_v7 = forms (m ((c : Thread nD τ).loc main_arg1)) := rfl

/-- The value operand: the value argument in `forms`. -/
theorem values (c : Dev nD) : V m c main_v11 = forms (m ((c : Thread nD τ).loc main_arg2)) := rfl

end Cert.GqaIdeal.Operands

end
-- ==== Proof.GqaReference.lean ====
/-
  What the reference of the grouped-query attention computes, read at one element of its result: the latent rows
  attend over every key, the context rows over the context keys.
-/
module

public import proofs.«01_k».proof.Proof.Softmax
public import proofs.«01_k».proof.Proof.Gen.GqaRefIdeal.Run
public import Idealize.ShloMosaic.Lib.Pipeline.ValueKit
public import Idealize.ShloMosaic.Lib.Pointwise

@[expose] public section

set_option maxRecDepth 16384

noncomputable section

namespace Cert.GqaRefIdeal.Value

open Cert.GqaRefIdeal Cert.GqaRefIdeal.Gen Attn Idealize.ShloMosaic Idealize.ShloMosaic.TcCoe Idealize.SL.Sem

variable (Q : FVec Ideal S8x2304x512 .f32) (K V : FVec Ideal S8x2304x128 .f32)

/-- The scores of the latent rows. -/
def scoresL : FVec Ideal S8x2x4x2048x2304 .f32 :=
  (mulf (transpose S8x2x4x2048x2304 [0, 1, 4, 3, 2] (Host.dotGeneral dot_S8x2304x2x64_S8x2048x2x4x64_S8x2x2304x2048x4_3_4_1_13_02_02 none (shapeCast _ K shapeCasts_S8x2304x128_S8x2304x2x64) (extractStridedSlice S8x2048x2x4x64 ![0, 0, 0, 0, 0] (shapeCast _ Q shapeCasts_S8x2304x512_S8x2304x2x4x64) slices_S8x2304x2x4x64_S8x2048x2x4x64_0_0_0_0_0)) transposes_S8x2x2304x2048x4_S8x2x4x2048x2304_0_1_4_3_2) (broadcastInDim S8x2x4x2048x2304 ![] bcast_S_S8x2x4x2048x2304 (constant S_ .f32 0x3E000000#32)))

/-- The scores of the context rows. -/
def scoresC : FVec Ideal S8x2x4x256x256 .f32 :=
  (mulf (transpose S8x2x4x256x256 [0, 1, 4, 3, 2] (Host.dotGeneral dot_S8x256x2x64_S8x256x2x4x64_S8x2x256x256x4_3_4_1_13_02_02 none (extractStridedSlice S8x256x2x64 ![0, 2048, 0, 0] (shapeCast _ K shapeCasts_S8x2304x128_S8x2304x2x64) slices_S8x2304x2x64_S8x256x2x64_0_2048_0_0) (extractStridedSlice S8x256x2x4x64 ![0, 2048, 0, 0, 0] (shapeCast _ Q shapeCasts_S8x2304x512_S8x2304x2x4x64) slices_S8x2304x2x4x64_S8x256x2x4x64_0_2048_0_0_0)) transposes_S8x2x256x256x4_S8x2x4x256x256_0_1_4_3_2) (broadcastInDim S8x2x4x256x256 ![] bcast_S_S8x2x4x256x256 (constant S_ .f32 0x3E000000#32)))

/-- The greatest score of each latent row. -/
def maxL (S : FVec Ideal S8x2x4x2048x2304 .f32) : FVec Ideal S8x2x4x2048 .f32 :=
  (maximumf (broadcastInDim S8x2x4x2048 ![] bcast_S_S8x2x4x2048 (constant S_ .f32 0xFF800000#32)) (Host.reduce FloatOps.maximumf S (constant S_ .f32 0xFF800000#32) reducesTo_S8x2x4x2048x2304_S8x2x4x2048_d4 h_S_))

/-- The greatest score of each context row. -/
def maxC (S : FVec Ideal S8x2x4x256x256 .f32) : FVec Ideal S8x2x4x256 .f32 :=
  (maximumf (broadcastInDim S8x2x4x256 ![] bcast_S_S8x2x4x256 (constant S_ .f32 0xFF800000#32)) (Host.reduce FloatOps.maximumf S (constant S_ .f32 0xFF800000#32) reducesTo_S8x2x4x256x256_S8x2x4x256_d4 h_S_))

/-- The latent rows' scores, shifted and exponentiated. -/
def expL (S : FVec Ideal S8x2x4x2048x2304 .f32) (M : FVec Ideal S8x2x4x2048 .f32) : FVec Ideal S8x2x4x2048x2304 .f32 :=
  (Host.exp (subf S (broadcastInDim S8x2x4x2048x2304 ![0, 1, 2, 3, 4] bcast_S8x2x4x2048x1_S8x2x4x2048x2304_0_1_2_3_4 (broadcastInDim S8x2x4x2048x1 ![0, 1, 2, 3] bcast_S8x2x4x2048_S8x2x4x2048x1_0_1_2_3 M))))

/-- The context rows' scores, shifted and exponentiated. -/
def expC (S : FVec Ideal S8x2x4x256x256 .f32) (M : FVec Ideal S8x2x4x256 .f32) : FVec Ideal S8x2x4x256x256 .f32 :=
  (Host.exp (subf S (broadcastInDim S8x2x4x256x256 ![0, 1, 2, 3, 4] bcast_S8x2x4x256x1_S8x2x4x256x256_0_1_2_3_4 (broadcastInDim S8x2x4x256x1 ![0, 1, 2, 3] bcast_S8x2x4x256_S8x2x4x256x1_0_1_2_3 M))))

/-- The latent rows' exponentials, each divided by its row's sum. -/
def probsL (E : FVec Ideal S8x2x4x2048x2304 .f32) : FVec Ideal S8x2x4x2048x2304 .f32 :=
  (Host.divf E (broadcastInDim S8x2x4x2048x2304 ![0, 1, 2, 3, 4] bcast_S8x2x4x2048x1_S8x2x4x2048x2304_0_1_2_3_4 (broadcastInDim S8x2x4x2048x1 ![0, 1, 2, 3] bcast_S8x2x4x2048_S8x2x4x2048x1_0_1_2_3 (Host.reduceAdd E (constant S_ .f32 0x00000000#32) reducesTo_S8x2x4x2048x2304_S8x2x4x2048_d4 h_S_))))

/-- The context rows' exponentials, each divided by its row's sum. -/
def probsC (E : FVec Ideal S8x2x4x256x256 .f32) : FVec Ideal S8x2x4x256x256 .f32 :=
  (Host.divf E (broadcastInDim S8x2x4x256x256 ![0, 1, 2, 3, 4] bcast_S8x2x4x256x1_S8x2x4x256x256_0_1_2_3_4 (broadcastInDim S8x2x4x256x1 ![0, 1, 2, 3] bcast_S8x2x4x256_S8x2x4x256x1_0_1_2_3 (Host.reduceAdd E (constant S_ .f32 0x00000000#32) reducesTo_S8x2x4x256x256_S8x2x4x256_d4 h_S_))))

/-- The latent rows of the result, from their probabilities. -/
def mixL (P : FVec Ideal S8x2x4x2048x2304 .f32) : FVec Ideal S8x2048x512 .f32 :=
  (shapeCast _ (transpose S8x2048x2x4x64 [0, 4, 1, 3, 2] (Host.dotGeneral dot_S8x2304x2x64_S8x2x4x2048x2304_S8x2x64x4x2048_1_4_3_23_02_01 none (shapeCast _ V shapeCasts_S8x2304x128_S8x2304x2x64) P) transposes_S8x2x64x4x2048_S8x2048x2x4x64_0_4_1_3_2) shapeCasts_S8x2048x2x4x64_S8x2048x512)

/-- The context rows of the result, from their probabilities. -/
def mixC (P : FVec Ideal S8x2x4x256x256 .f32) : FVec Ideal S8x256x512 .f32 :=
  (shapeCast _ (transpose S8x256x2x4x64 [0, 4, 1, 3, 2] (Host.dotGeneral dot_S8x256x2x64_S8x2x4x256x256_S8x2x64x4x256_1_4_3_23_02_01 none (extractStridedSlice S8x256x2x64 ![0, 2048, 0, 0] (shapeCast _ V shapeCasts_S8x2304x128_S8x2304x2x64) slices_S8x2304x2x64_S8x256x2x64_0_2048_0_0) P) transposes_S8x2x64x4x256_S8x256x2x4x64_0_4_1_3_2) shapeCasts_S8x256x2x4x64_S8x256x512)

/-- The latent rows followed by the context rows. -/
def join (A : FVec Ideal S8x2048x512 .f32) (B : FVec Ideal S8x256x512 .f32) : FVec Ideal S8x2304x512 .bf16 :=
  truncf .bf16 (concatenate S8x2304x512 1 [⟨S8x2048x512, A⟩, ⟨S8x256x512, B⟩] concatenates_S8x2048x512_S8x256x512_S8x2304x512_d1) bitsLt_bf16_f32

/-- The reference's result, over its three arguments. -/
def res : FVec Ideal S8x2304x512 .bf16 :=
  join (mixL V (probsL (expL (scoresL Q K) (maxL (scoresL Q K))))) (mixC V (probsC (expC (scoresC Q K) (maxC (scoresC Q K)))))

/-- The composed term of the reference's run is `res` of the arguments. -/
theorem res_main (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2)) := rfl

/-- The score of row `i` against key `n`, for head `j` of the key group `g`. -/
def score (b : Fin 8) (g : Fin 2) (j : Fin 4) (i n : Fin 2304) : EReal :=
  (∑ d : Fin 64, K (ix3 b n ⟨g.val * 64 + d.val, by omega⟩) * Q (ix3 b i ⟨g.val * 256 + j.val * 64 + d.val, by omega⟩))
    * Ideal.ofBits .f32 0x3E000000#32

/-- The value which key `n` gives to output lane `l`. -/
def value (b : Fin 8) (n : Fin 2304) (l : Fin 512) : EReal :=
  V (ix3 b n ⟨l.val / 256 * 64 + l.val % 64, by omega⟩)

/-- One element of the attention of row `i` over the `n` keys from key `s` on. -/
def attend (n s : ℕ) (hs : s + n ≤ 2304) (b : Fin 8) (i : Fin 2304) (l : Fin 512) : EReal :=
  early (fun k : Fin n => score Q K b ⟨l.val / 256, by omega⟩ ⟨l.val / 64 % 4, by omega⟩ i ⟨s + k.val, by omega⟩)
    (fun k => value V b ⟨s + k.val, by omega⟩ l)

theorem maxL_at (S : FVec Ideal S8x2x4x2048x2304 .f32) (b : Fin 8) (g : Fin 2) (j : Fin 4) (i : Fin 2048) :
    maxL S (ix4 b g j i) = peak fun n => S (ix5 b g j i n) := by
  unfold maxL
  rw [maximumf_at, reduce_last]
  exact max_start_peak _

theorem maxC_at (S : FVec Ideal S8x2x4x256x256 .f32) (b : Fin 8) (g : Fin 2) (j : Fin 4) (i : Fin 256) :
    maxC S (ix4 b g j i) = peak fun n => S (ix5 b g j i n) := by
  unfold maxC
  rw [maximumf_at, reduce_last]
  exact max_start_peak _

theorem expL_at (S : FVec Ideal S8x2x4x2048x2304 .f32) (M : FVec Ideal S8x2x4x2048 .f32) (b : Fin 8) (g : Fin 2) (j : Fin 4) (i : Fin 2048) (n : Fin 2304) :
    expL S M (ix5 b g j i n) = Ideal.exp (S (ix5 b g j i n) - M (ix4 b g j i)) := by
  pointwise [expL]

theorem expC_at (S : FVec Ideal S8x2x4x256x256 .f32) (M : FVec Ideal S8x2x4x256 .f32) (b : Fin 8) (g : Fin 2) (j : Fin 4) (i : Fin 256) (n : Fin 256) :
    expC S M (ix5 b g j i n) = Ideal.exp (S (ix5 b g j i n) - M (ix4 b g j i)) := by
  pointwise [expC]

theorem probsL_at (E : FVec Ideal S8x2x4x2048x2304 .f32) (b : Fin 8) (g : Fin 2) (j : Fin 4) (i : Fin 2048) (n : Fin 2304) :
    probsL E (ix5 b g j i n) = Ideal.div (E (ix5 b g j i n)) (∑ n, E (ix5 b g j i n)) := by
  pointwise [probsL]

theorem probsC_at (E : FVec Ideal S8x2x4x256x256 .f32) (b : Fin 8) (g : Fin 2) (j : Fin 4) (i : Fin 256) (n : Fin 256) :
    probsC E (ix5 b g j i n) = Ideal.div (E (ix5 b g j i n)) (∑ n, E (ix5 b g j i n)) := by
  pointwise [probsC]

theorem scoresL_at (b : Fin 8) (g : Fin 2) (j : Fin 4) (i : Fin 2048) (n : Fin 2304) :
    scoresL Q K (ix5 b g j i n) = score Q K b g j ⟨i.val, by omega⟩ n := by
  unfold score
  pointwise [scoresL]

theorem scoresC_at (b : Fin 8) (g : Fin 2) (j : Fin 4) (i : Fin 256) (n : Fin 256) :
    scoresC Q K (ix5 b g j i n) = score Q K b g j ⟨2048 + i.val, by omega⟩ ⟨2048 + n.val, by omega⟩ := by
  unfold score
  pointwise [scoresC]

theorem mixL_at (P : FVec Ideal S8x2x4x2048x2304 .f32) (b : Fin 8) (i : Fin 2048) (l : Fin 512) :
    mixL V P (ix3 b i l) = ∑ n : Fin 2304, V (ix3 b n ⟨l.val / 256 * 64 + l.val % 64, by omega⟩)
      * P (ix5 b ⟨l.val / 256, by omega⟩ ⟨l.val / 64 % 4, by omega⟩ i n) := by
  pointwise [mixL]

theorem mixC_at (P : FVec Ideal S8x2x4x256x256 .f32) (b : Fin 8) (i : Fin 256) (l : Fin 512) :
    mixC V P (ix3 b i l) = ∑ n : Fin 256, V (ix3 b ⟨2048 + n.val, by omega⟩ ⟨l.val / 256 * 64 + l.val % 64, by omega⟩)
      * P (ix5 b ⟨l.val / 256, by omega⟩ ⟨l.val / 64 % 4, by omega⟩ i n) := by
  pointwise [mixC]

/-- A latent row of the result: its attention over every key. -/
theorem latent_at (b : Fin 8) (i : Fin 2048) (l : Fin 512) :
    mixL V (probsL (expL (scoresL Q K) (maxL (scoresL Q K)))) (ix3 b i l)
      = attend Q K V 2304 0 (by omega) b ⟨i.val, by omega⟩ l := by
  rw [mixL_at]
  unfold attend early mass weight value
  refine Finset.sum_congr rfl fun n _ => ?_
  simp only [probsL_at, expL_at, maxL_at, scoresL_at, zero_add]
  exact mul_comm _ _

/-- A context row of the result: its attention over the context keys. -/
theorem context_at (b : Fin 8) (i : Fin 256) (l : Fin 512) :
    mixC V (probsC (expC (scoresC Q K) (maxC (scoresC Q K)))) (ix3 b i l)
      = attend Q K V 256 2048 (by omega) b ⟨2048 + i.val, by omega⟩ l := by
  rw [mixC_at]
  unfold attend early mass weight value
  refine Finset.sum_congr rfl fun n _ => ?_
  simp only [probsC_at, expC_at, maxC_at, scoresC_at]
  exact mul_comm _ _

theorem join_latent (A : FVec Ideal S8x2048x512 .f32) (B : FVec Ideal S8x256x512 .f32) (b : Fin 8) (i : Fin 2304) (l : Fin 512)
    (hi : i.val < 2048) : join A B (ix3 b i l) = A (ix3 b ⟨i.val, hi⟩ l) := by
  pointwise [join]
  rw [dif_pos hi]

theorem join_context (A : FVec Ideal S8x2048x512 .f32) (B : FVec Ideal S8x256x512 .f32) (b : Fin 8) (i : Fin 256) (l : Fin 512) :
    join A B (ix3 b ⟨2048 + i.val, by omega⟩ l) = B (ix3 b i l) := by
  pointwise [join]

/-- The reference's result on its latent rows. -/
theorem res_latent (b : Fin 8) (i : Fin 2304) (l : Fin 512) (hi : i.val < 2048) :
    res Q K V (ix3 b i l) = attend Q K V 2304 0 (by omega) b i l :=
  (join_latent _ _ b i l hi).trans (latent_at Q K V b ⟨i.val, hi⟩ l)

/-- The reference's result on its context rows. -/
theorem res_context (b : Fin 8) (i : Fin 256) (l : Fin 512) :
    res Q K V (ix3 b ⟨2048 + i.val, by omega⟩ l) = attend Q K V 256 2048 (by omega) b ⟨2048 + i.val, by omega⟩ l :=
  (join_context _ _ b i l).trans (context_at Q K V b i l)

end Cert.GqaRefIdeal.Value

end
-- ==== Proof.Finite.lean ====
/-
  What the preconditions of the two attentions give: every element of an array whose magnitudes are all below
  infinity is a real number.
-/
module

public import proofs.«01_k».proof.Proof.Softmax
public import Idealize.ShloMosaic.Lib.ReduceAll
public import Idealize.ShloMosaic.Lib.Claim

@[expose] public section

noncomputable section

namespace Attn

open Idealize.ShloMosaic

/-- The pattern the magnitudes are compared with denotes `+∞`. -/
theorem bound_eq : Ideal.ofBits .f32 0x7F800000#32 = ⊤ := by simp [Ideal.ofBits, Ideal.ieee]

/-- An array whose magnitudes are all below infinity holds real numbers. -/
theorem isReal_of_all {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi (cmpf .olt (Host.absf x) (broadcastInDim s ![] hb (constant (F := Ideal) ⟨0, ![]⟩ .f32 0x7F800000#32))) init h hu j = 1#1)
    (i : s.Idx) : IsReal (x i) := by
  have k := Host.reduce_andi_all _ _ _ _ _ e i
  pointwise at k
  rw [bound_eq] at k
  refine isReal_of_abs_lt ?_
  by_contra hn
  have hd : decide (FloatOps.absf (x i) < (⊤ : EReal)) = false := decide_eq_false hn
  rw [hd] at k
  exact absurd k (by decide)

end Attn

end
-- ==== Proof.GqaEquation.lean ====
/-
  The grouped-query attention's equation on arrays: the two heads the kernel adds in one group of 128 lanes, each
  over keys and values spread into their half of the lanes, are the reference's attention of the one head whose
  output lanes these are.
-/
module

public import proofs.«01_k».proof.Proof.GqaOperands
public import proofs.«01_k».proof.Proof.GqaReference
public import proofs.«01_k».proof.Proof.Finite

@[expose] public section

set_option maxRecDepth 16384

noncomputable section

namespace Cert.GqaIdeal.Equation

open Cert.GqaIdeal Cert.GqaIdeal.Gen Cert.GqaIdeal.Operands Attn Idealize.ShloMosaic Idealize.ShloMosaic.TcCoe Idealize.SL.Sem

/-- The attention's scale is one eighth. -/
theorem scale_eq : Ideal.ofBits .f32 0x3E000000#32 = ((1 / 8 : ℝ) : EReal) := by
  simp [Ideal.ofBits, Ideal.ieee, -EReal.coe_mul]
  norm_num

variable (q : FVec Ideal S8x2304x512 .f32) (k v : FVec Ideal S8x2304x128 .f32)

/-- The scaled score of row `i` of head `h` against key `n`, of 64 products. -/
def score (b : Fin 8) (h : Fin 8) (i n : Fin 2304) : EReal :=
  (∑ d : Fin 64, k (ix3 b n ⟨64 * (h.val / 4) + d.val, by omega⟩) * q (ix3 b i ⟨64 * h.val + d.val, by omega⟩))
    * Ideal.ofBits .f32 0x3E000000#32

/-- The kernel's score, of 128 products of which one half is zero. -/
theorem score_eq (b : Fin 8) (h : Fin 8) (i n : Fin 2304) :
    ∑ d : Fin 128, q (ix3 b i ⟨128 * (h.val / 2) + d.val, by omega⟩) * Ideal.ofBits .f32 0x3E000000#32
        * forms k (ix3 b n ⟨256 * (h.val / 4) + 128 * (h.val % 2) + d.val, by omega⟩)
      = score q k b h i n := by
  unfold score
  simp only [forms_at, scale_eq]
  rw [← scaled_dot (fun d : Fin 64 => q (ix3 b i ⟨64 * h.val + d.val, by omega⟩))
      (fun d : Fin 64 => k (ix3 b n ⟨64 * (h.val / 4) + d.val, by omega⟩)) (by norm_num : (0 : ℝ) ≤ 1 / 8),
    Fin.sum_univ_two_halves 64 64 rfl]
  rcases Nat.mod_two_eq_zero_or_one h.val with e | e
  · refine (congrArg₂ (· + ·) (Finset.sum_congr rfl fun d _ => ?_) (Finset.sum_eq_zero fun d _ => ?_)).trans (add_zero _)
    · dsimp only
      rw [if_pos (by omega)]
      refine congrArg₂ (· * ·) (congrArg (· * _) (congrArg q ?_)) (congrArg k ?_)
      · exact (ix3_inj ..).2 ⟨rfl, rfl, Fin.ext (by dsimp only; omega)⟩
      · exact (ix3_inj ..).2 ⟨rfl, rfl, Fin.ext (by dsimp only; omega)⟩
    · dsimp only
      rw [if_neg (by omega), mul_zero]
  · refine (congrArg₂ (· + ·) (Finset.sum_eq_zero fun d _ => ?_) (Finset.sum_congr rfl fun d _ => ?_)).trans (zero_add _)
    · dsimp only
      rw [if_neg (by omega), mul_zero]
    · dsimp only
      rw [if_pos (by omega)]
      refine congrArg₂ (· * ·) (congrArg (· * _) (congrArg q ?_)) (congrArg k ?_)
      · exact (ix3_inj ..).2 ⟨rfl, rfl, Fin.ext (by dsimp only; omega)⟩
      · exact (ix3_inj ..).2 ⟨rfl, rfl, Fin.ext (by dsimp only; omega)⟩

/-- A score of real numbers is one. -/
theorem score_real (hq : ∀ i, IsReal (q i)) (hk : ∀ i, IsReal (k i)) (b : Fin 8) (h : Fin 8) (i n : Fin 2304) :
    IsReal (score q k b h i n) :=
  (IsReal.sum fun d => (hk _).mul (hq _)).mul ⟨_, scale_eq⟩

/-- Head `h` over the whole arrays, at lane `l` of its 128: what the kernel averages. -/
def head (n s : ℕ) (hs : s + n ≤ 2304) (b : Fin 8) (i : Fin 2304) (h : Fin 8) (l : Fin 128) : EReal :=
  late (fun e : Fin n => ∑ d : Fin 128, q (ix3 b i ⟨128 * (h.val / 2) + d.val, by omega⟩) * Ideal.ofBits .f32 0x3E000000#32
      * forms k (ix3 b ⟨s + e.val, by omega⟩ ⟨256 * (h.val / 4) + 128 * (h.val % 2) + d.val, by omega⟩))
    (fun e => forms v (ix3 b ⟨s + e.val, by omega⟩ ⟨256 * (h.val / 4) + 128 * (h.val % 2) + l.val, by omega⟩))

/-- Head `h` with its scores and its values read: the values are zero outside the half of the head's parity. -/
theorem head_eq (n s : ℕ) (hs : s + n ≤ 2304) (b : Fin 8) (i : Fin 2304) (h : Fin 8) (l : Fin 128) :
    head q k v n s hs b i h l
      = late (fun e : Fin n => score q k b h i ⟨s + e.val, by omega⟩)
          (fun e => if l.val / 64 = h.val % 2 then v (ix3 b ⟨s + e.val, by omega⟩ ⟨64 * (h.val / 4) + l.val % 64, by omega⟩) else 0) :=
  congrArg₂ late (funext fun e => score_eq q k b h i _) (funext fun e => forms_at v b _ h l)

/-- The head whose output lanes hold lane `128 p + l`, averaged the reference's way, is the reference's attention there. -/
theorem early_eq (n s : ℕ) (hs : s + n ≤ 2304) (b : Fin 8) (i : Fin 2304) (p : Fin 4) (l : Fin 128) (h : Fin 8)
    (hh : h.val = 2 * p.val + l.val / 64) :
    early (fun e : Fin n => score q k b h i ⟨s + e.val, by omega⟩)
        (fun e => if l.val / 64 = h.val % 2 then v (ix3 b ⟨s + e.val, by omega⟩ ⟨64 * (h.val / 4) + l.val % 64, by omega⟩) else 0)
      = Cert.GqaRefIdeal.Value.attend q k v n s hs b i ⟨128 * p + l, by omega⟩ := by
  unfold Cert.GqaRefIdeal.Value.attend
  refine congrArg₂ early (funext fun e => ?_) (funext fun e => ?_)
  · unfold score Cert.GqaRefIdeal.Value.score
    refine congrArg (· * _) (Finset.sum_congr rfl fun d _ => congrArg₂ (· * ·) (congrArg k ?_) (congrArg q ?_))
    · exact (ix3_inj ..).2 ⟨rfl, rfl, Fin.ext (by dsimp only; omega)⟩
    · exact (ix3_inj ..).2 ⟨rfl, rfl, Fin.ext (by dsimp only; omega)⟩
  · rw [if_pos (by omega)]
    exact congrArg v ((ix3_inj ..).2 ⟨rfl, rfl, Fin.ext (by dsimp only; omega)⟩)

/-- THE EQUATION: the two heads of pair `p`, added, are the reference's attention at output lane `128 p + l`. -/
theorem pair_eq (hq : ∀ i, IsReal (q i)) (hk : ∀ i, IsReal (k i)) (n s : ℕ) (hn : 0 < n) (hs : s + n ≤ 2304)
    (b : Fin 8) (i : Fin 2304) (p : Fin 4) (l : Fin 128) :
    head q k v n s hs b i ⟨2 * p, by omega⟩ l + head q k v n s hs b i ⟨2 * p + 1, by omega⟩ l
      = Cert.GqaRefIdeal.Value.attend q k v n s hs b i ⟨128 * p + l, by omega⟩ := by
  have hr : ∀ h (e : Fin n), IsReal (score q k b h i ⟨s + e.val, by omega⟩) := fun h e => score_real q k hq hk b h i _
  rw [head_eq, head_eq]
  rcases Nat.lt_or_ge l.val 64 with e | e
  · rw [late_add_zero hn (hr _) (hr _) (fun e' => if_neg (by dsimp only; omega))]
    exact early_eq q k v n s hs b i p l _ (by dsimp only; omega)
  · rw [zero_add_late hn (hr _) (hr _) (fun e' => if_neg (by dsimp only; omega))]
    exact early_eq q k v n s hs b i p l _ (by dsimp only; omega)

end Cert.GqaIdeal.Equation

end
-- ==== Proof.GqaArray.lean ====
/-
  What the grouped-query attention's call leaves in its result array: the reference's result, over the call's own
  arguments.
-/
module

public import proofs.«01_k».proof.Proof.GqaBlock
public import proofs.«01_k».proof.Proof.GqaEquation
public import proofs.«01_k».proof.Proof.Gen.Pre_gqa_finite

@[expose] public section

set_option maxRecDepth 16384

noncomputable section

namespace Cert.GqaIdeal.Array

open Cert.GqaIdeal Cert.GqaIdeal.Gen Cert.GqaIdeal.Operands Attn Idealize.ShloMosaic Idealize.ShloMosaic.TcCoe Idealize.SL.Sem

variable (m : (ℓ : Loc nD τ sig) → Buf (Elt Ideal) ℓ)

/-- The four windows' block indices: batch item `t / 9`, tile `t % 9`; the keys and the values whole. -/
theorem idx : ∀ t : Fin cfg0.N, win0_0.index t = ![t.val / 9, t.val % 9, 0] ∧ win0_1.index t = ![t.val / 9, 0, 0]
    ∧ win0_2.index t = ![t.val / 9, 0, 0] ∧ win0_3.index t = ![t.val / 9, t.val % 9, 0] :=
  (by decide +kernel : ∀ t : Fin grid0.N, _)

/-- Row `r` of the query block of point `t`. -/
theorem query_block (c : Dev nD) (t : Fin cfg0.N) (b : Fin 8) (i : Fin 2304) (r : Fin 256) (d : Fin 512)
    (hb : b.val = t.val / 9) (hi : i.val = 256 * (t.val % 9) + r.val) :
    (show FVec Ideal S1x256x512 .bf16 from iblk m c 0 t) (ix3 0 r d)
      = (show FVec Ideal S8x2304x512 .f32 from m ((c : Thread nD τ).loc main_arg0)) (ix3 b i d) * Ideal.ofBits .f32 0x3E000000#32 := by
  rw [← query_at]
  blk_point [iblk, idx t]

theorem key_block (c : Dev nD) (t : Fin cfg0.N) (b : Fin 8) (n : Fin 2304) (d : Fin 512) (hb : b.val = t.val / 9) :
    (show FVec Ideal S1x2304x512 .bf16 from iblk m c 1 t) (ix3 0 n d) = forms (m ((c : Thread nD τ).loc main_arg1)) (ix3 b n d) := by
  rw [← keys]
  blk_point [iblk, idx t]

theorem value_block (c : Dev nD) (t : Fin cfg0.N) (b : Fin 8) (n : Fin 2304) (d : Fin 512) (hb : b.val = t.val / 9) :
    (show FVec Ideal S1x2304x512 .bf16 from iblk m c 2 t) (ix3 0 n d) = forms (m ((c : Thread nD τ).loc main_arg2)) (ix3 b n d) := by
  rw [← values]
  blk_point [iblk, idx t]

/-- A head of one block is the head of the whole arrays at the block's batch item and row. -/
theorem head_block (c : Dev nD) (t : Fin cfg0.N) (b : Fin 8) (i : Fin 2304) (r : Fin 256)
    (hb : b.val = t.val / 9) (hi : i.val = 256 * (t.val % 9) + r.val) (n s : ℕ) (hs : s + n ≤ 2304) (h : Fin 8) (l : Fin 128) :
    Block.head n s hs (iblk m c 0 t) (iblk m c 1 t) (iblk m c 2 t) r h l
      = Equation.head (m ((c : Thread nD τ).loc main_arg0)) (m ((c : Thread nD τ).loc main_arg1)) (m ((c : Thread nD τ).loc main_arg2))
          n s hs b i h l :=
  congrArg₂ late
    (funext fun e => Finset.sum_congr rfl fun d _ => congrArg₂ (· * ·) (query_block m c t b i r _ hb hi) (key_block m c t b _ _ hb))
    (funext fun e => value_block m c t b _ _ hb)

/-- What the precondition gives. -/
theorem queries_real (q : FVec Ideal S8x2304x512 .f32) (k v : FVec Ideal S8x2304x128 .f32)
    (h : Cert.Pre_gqa_finite.fn (F := Ideal) q k v = fun _ => 1#1) : (∀ i, IsReal (q i)) ∧ ∀ i, IsReal (k i) := by
  have e := congrFun h ix0
  unfold Cert.Pre_gqa_finite.fn at e
  obtain ⟨e1, e2⟩ := IntOp.andi_eq_one.1 e
  exact ⟨isReal_of_all q _ _ _ _ _ e1, isReal_of_all k _ _ _ _ _ e2⟩

/-- THE RESULT of the call, given real queries and keys. -/
theorem final (c : Dev nD) (hq : ∀ i, IsReal ((show FVec Ideal S8x2304x512 .f32 from m ((c : Thread nD τ).loc main_arg0)) i))
    (hk : ∀ i, IsReal ((show FVec Ideal S8x2304x128 .f32 from m ((c : Thread nD τ).loc main_arg1)) i)) :
    (dats m 0 c).arrAt 3 (cfgs 0).N
      = Cert.GqaRefIdeal.Value.res (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 72 := t.isLt
  have h1 : (y 1).val < 256 := (y 1).isLt
  have h2 : (y 2).val < 512 := (y 2).isLt
  have e : (win0_3.blk t).view.emb y = (ix3 (⟨t.val / 9, by omega⟩ : Fin 8) (⟨256 * (t.val % 9) + (y 1).val, by omega⟩ : Fin 2304)
      (⟨128 * ((y 2).val / 128) + (y 2).val % 128, by omega⟩ : Fin 512) : S8x2304x512.Idx) := by
    blk_ext [idx t]
  rw [e]
  have hy : (y 2 : ℕ) = 128 * (⟨(y 2).val / 128, by omega⟩ : Fin 4).val + (⟨(y 2).val % 128, by omega⟩ : Fin 128).val := by
    dsimp only; omega
  rcases Nat.lt_or_ge (t.val % 9) 8 with ht | ht
  · rw [Block.latent m c t (by omega) (by omega) y _ _ hy, Cert.GqaRefIdeal.Value.res_latent _ _ _ _ _ _ (by dsimp only; omega),
      head_block m c t ⟨t.val / 9, by omega⟩ ⟨256 * (t.val % 9) + (y 1).val, by omega⟩ (y 1) rfl rfl,
      head_block m c t ⟨t.val / 9, by omega⟩ ⟨256 * (t.val % 9) + (y 1).val, by omega⟩ (y 1) rfl rfl]
    exact Equation.pair_eq _ _ _ hq hk _ _ (by omega) _ _ _ ⟨(y 2).val / 128, by omega⟩ ⟨(y 2).val % 128, by omega⟩
  · have h8 : t.val % 9 = 8 := by omega
    have er : (⟨256 * (t.val % 9) + (y 1).val, by omega⟩ : Fin 2304) = ⟨2048 + (⟨(y 1).val, h1⟩ : Fin 256).val, by dsimp only; omega⟩ :=
      Fin.ext (by dsimp only; omega)
    rw [Block.context m c t (by omega) (by omega) y _ _ hy,
      head_block m c t ⟨t.val / 9, by omega⟩ ⟨256 * (t.val % 9) + (y 1).val, by omega⟩ (y 1) rfl rfl,
      head_block m c t ⟨t.val / 9, by omega⟩ ⟨256 * (t.val % 9) + (y 1).val, by omega⟩ (y 1) rfl rfl, er,
      Cert.GqaRefIdeal.Value.res_context]
    exact Equation.pair_eq _ _ _ hq hk _ _ (by omega) _ _ _ ⟨(y 2).val / 128, by omega⟩ ⟨(y 2).val % 128, by omega⟩

end Cert.GqaIdeal.Array

end
-- ==== Proof.GqaClaim.lean ====
/-
  The claims about the grouped-query attention: the three frames, that the idealization changes nothing, and that kernel and
  reference end with one result.
-/
module

public import proofs.«01_k».proof.Defs
public import Idealize.ShloMosaic.Lib.Claim
public import proofs.«01_k».proof.Proof.GqaArray
public import proofs.«01_k».proof.Proof.Gen.Gqa.Frame
public import proofs.«01_k».proof.Proof.Gen.GqaIdeal.Frame
public import proofs.«01_k».proof.Proof.Gen.GqaRefIdeal.Run

@[expose] public section

set_option maxRecDepth 16384

noncomputable section

namespace Cert.GqaClaim

open Idealize.ShloMosaic Idealize.SL.Sem

theorem frame : Cert.quiescent_Gqa := fun m ρ _ => Cert.Gqa.Gen.frame m ρ

theorem frame_ideal : Cert.quiescent_GqaIdeal := fun m ρ _ => Cert.GqaIdeal.Gen.frame m ρ

theorem frame_ideal_pre : Cert.quiescent_GqaIdeal_pre_gqa_finite := fun m ρ _ => Cert.GqaIdeal.Gen.frame m ρ

theorem frame_reference : Cert.quiescent_GqaRefIdeal := by
  intro m g _
  exact (θ_run _ _ _).mono (fun r h => ⟨fun c => (h c).2, sem_eq_zero_of_no_sems (by decide) _⟩) (Cert.GqaRefIdeal.Value.run m g)

theorem frame_reference_pre : Cert.quiescent_GqaRefIdeal_pre_gqa_finite := by
  intro m g _
  exact (θ_run _ _ _).mono (fun r h => ⟨fun c => (h c).2, sem_eq_zero_of_no_sems (by decide) _⟩) (Cert.GqaRefIdeal.Value.run m g)

theorem preserves : Cert.preserves_Gqa_GqaIdeal := trivial

/-- From real queries and keys the kernel and the reference end with one result. -/
theorem algebraic : Cert.algebraic_GqaIdeal_GqaRefIdeal_pre_gqa_finite := by
  pair_intro
  · run_from Cert.GqaIdeal.Gen.run_main m g
  · run_from Cert.GqaRefIdeal.Value.run m' g'
    have hr := Cert.GqaIdeal.Array.queries_real _ _ _ (hpre c)
    refine Eq.trans ?_ (Cert.GqaIdeal.Array.final m c hr.1 hr.2).symm
    refine (Cert.GqaRefIdeal.Value.res_main m' c).trans ?_
    rw [(hagree c).1, (hagree c).2.1, (hagree c).2.2]

end Cert.GqaClaim

end
-- ==== Proof.MlaBlock.lean ====
/-
  What one grid point of the latent attention leaves in its output block: at row `r`, in the lanes of pair
  `p`, the sum of the averages of heads `2p` and `2p + 1`, read from the lanes those heads have in the three blocks.
-/
module

public import proofs.«01_k».proof.Proof.Softmax
public import proofs.«01_k».proof.Proof.Gen.MlaIdeal.Value
public import Idealize.ShloMosaic.Lib.Pipeline.ValueKit
public import Idealize.ShloMosaic.Lib.Pointwise

@[expose] public section

set_option maxRecDepth 16384

noncomputable section

namespace Cert.MlaIdeal.Block

open Cert.MlaIdeal Cert.MlaIdeal.Gen Attn Idealize.ShloMosaic Idealize.ShloMosaic.TcCoe Idealize.SL.Sem

/-- Two heads' outputs, added and stored. -/
def added (a b : FVec Ideal S256x128 .f32) : FVec Ideal S1x256x128 .bf16 :=
  shapeCast S1x256x128 (truncf .bf16 (addf a b) bitsLt_bf16_f32) shapeCasts_S256x128_S1x256x128

theorem added_at (a b : FVec Ideal S256x128 .f32) (r : Fin 256) (l : Fin 128) : added a b (ix3 0 r l) = a (ix2 r l) + b (ix2 r l) := by
  pointwise [added]

section latent

variable (q q' : FVec Ideal S1x256x128 .bf16) (k k' v v' : FVec Ideal S1x2304x128 .bf16)

/-- One head of a latent tile, from its lanes of the three blocks. -/
theorem one_latent (r : Fin 256) (l : Fin 128) :
    k0_pay3 (F := Ideal) q k v (ix2 r l)
      = late (fun n : Fin 2304 => ∑ d : Fin 128, q (ix3 0 r d) * k (ix3 0 n d)) (fun n => v (ix3 0 n l)) := by
  unfold late mass weight peak
  pointwise [k0_pay3]

theorem first_latent : k0_pay7 (F := Ideal) (k0_pay3 q k v) (k0_pay5 q' k') (k0_pay6 q' k' v') = added (k0_pay3 (F := Ideal) q k v) (k0_pay3 (F := Ideal) q' k' v') := rfl

theorem second_latent : k0_pay11 (F := Ideal) (k0_pay8 q k v) (k0_pay9 v') (k0_pay10 q' k') = added (k0_pay3 (F := Ideal) q k v) (k0_pay3 (F := Ideal) q' k' v') := rfl

theorem third_latent : k0_pay14 (F := Ideal) (k0_pay12 q k v) (k0_pay13 q') k' v' = added (k0_pay3 (F := Ideal) q k v) (k0_pay3 (F := Ideal) q' k' v') := rfl

theorem fourth_latent : k0_pay1 (F := Ideal) (k0_pay15 v) (k0_pay17 q k) (k0_pay18 q k) q' k' v' = added (k0_pay3 (F := Ideal) q k v) (k0_pay3 (F := Ideal) q' k' v') := rfl

/-- A stored pair of heads of a latent tile at one element. -/
theorem pair_latent (x : S1x256x128.Idx) (r : Fin 256) (l : Fin 128) (hx : x = ix3 0 r l) :
    added (k0_pay3 (F := Ideal) q k v) (k0_pay3 (F := Ideal) q' k' v') x
      = late (fun n : Fin 2304 => ∑ d : Fin 128, q (ix3 0 r d) * k (ix3 0 n d)) (fun n => v (ix3 0 n l))
        + late (fun n : Fin 2304 => ∑ d : Fin 128, q' (ix3 0 r d) * k' (ix3 0 n d)) (fun n => v' (ix3 0 n l)) := by
  rw [hx, added_at, one_latent, one_latent]

end latent

section context

variable (q q' : FVec Ideal S1x256x128 .bf16) (k k' v v' : FVec Ideal S1x256x128 .bf16)

/-- One head of a context tile, from its lanes of the three blocks. -/
theorem one_context (r : Fin 256) (l : Fin 128) :
    k0_pay19 (F := Ideal) q k v (ix2 r l)
      = late (fun n : Fin 256 => ∑ d : Fin 128, q (ix3 0 r d) * k (ix3 0 n d)) (fun n => v (ix3 0 n l)) := by
  unfold late mass weight peak
  pointwise [k0_pay19]

theorem first_context : k0_pay23 (F := Ideal) (k0_pay19 q k v) (k0_pay21 q' k') (k0_pay22 q' k' v') = added (k0_pay19 (F := Ideal) q k v) (k0_pay19 (F := Ideal) q' k' v') := rfl

theorem second_context : k0_pay27 (F := Ideal) (k0_pay24 q k v) (k0_pay25 v') (k0_pay26 q' k') = added (k0_pay19 (F := Ideal) q k v) (k0_pay19 (F := Ideal) q' k' v') := rfl

theorem third_context : k0_pay30 (F := Ideal) (k0_pay28 q k v) (k0_pay29 q') k' v' = added (k0_pay19 (F := Ideal) q k v) (k0_pay19 (F := Ideal) q' k' v') := rfl

theorem fourth_context : k0_pay2 (F := Ideal) (k0_pay31 v) (k0_pay33 q k) (k0_pay34 q k) q' k' v' = added (k0_pay19 (F := Ideal) q k v) (k0_pay19 (F := Ideal) q' k' v') := rfl

/-- A stored pair of heads of a context tile at one element. -/
theorem pair_context (x : S1x256x128.Idx) (r : Fin 256) (l : Fin 128) (hx : x = ix3 0 r l) :
    added (k0_pay19 (F := Ideal) q k v) (k0_pay19 (F := Ideal) q' k' v') x
      = late (fun n : Fin 256 => ∑ d : Fin 128, q (ix3 0 r d) * k (ix3 0 n d)) (fun n => v (ix3 0 n l))
        + late (fun n : Fin 256 => ∑ d : Fin 128, q' (ix3 0 r d) * k' (ix3 0 n d)) (fun n => v' (ix3 0 n l)) := by
  rw [hx, added_at, one_context, one_context]

end context

variable (m : (ℓ : Loc nD τ sig) → Buf (Elt Ideal) ℓ)

/-- Head `h` of a block at row `r`, lane `l` of its 128: queries, keys and values in the head's own lanes, over the
    `n` keys from key `s` on. -/
def head (n s : ℕ) (hs : s + n ≤ 2304) (Q : FVec Ideal S1x256x1024 .bf16) (K V : FVec Ideal S1x2304x1024 .bf16)
    (r : Fin 256) (h : Fin 8) (l : Fin 128) : EReal :=
  late (fun k : Fin n => ∑ d : Fin 128, Q (ix3 0 r ⟨128 * h.val + d.val, by omega⟩)
      * K (ix3 0 ⟨s + k.val, by omega⟩ ⟨128 * h.val + d.val, by omega⟩))
    (fun k => V (ix3 0 ⟨s + k.val, by omega⟩ ⟨128 * h.val + l.val, by omega⟩))

/-- A latent tile sees every key. -/
theorem latent (c : Dev nD) (t : Fin cfg0.N) (c0 : t.val % 9 ≤ 7) (c1 : ¬t.val % 9 = 8) (y : S1x256x512.Idx)
    (p : Fin 4) (l : Fin 128) (hy : (y 2 : ℕ) = 128 * p + l) :
    outsAt0 m c t.val t.isLt y
      = head 2304 0 (by omega) (iblk m c 0 t) (iblk m c 1 t) (iblk m c 2 t) (y 1) ⟨2 * p, by omega⟩ l
        + head 2304 0 (by omega) (iblk m c 0 t) (iblk m c 1 t) (iblk m c 2 t) (y 1) ⟨2 * p + 1, by omega⟩ l := by
  rw [outsAt0_A m c t c0 c1]
  frame_out
  canon_tiles x h
  all_goals
    have ex : x = (ix3 0 ⟨(x 1).val, x1_lt⟩ ⟨(x 2).val, x2_lt⟩ : S1x256x128.Idx) := by blk_ext
    first
      | rw [fourth_latent]
      | rw [third_latent]
      | rw [second_latent]
      | rw [first_latent]
    rw [pair_latent _ _ _ _ _ _ x _ _ ex]
    unfold head
    refine congrArg₂ (· + ·)
      (congrArg₂ late (funext fun n => Finset.sum_congr rfl fun d _ => congrArg₂ (· * ·) ?_ ?_) (funext fun n => ?_))
      (congrArg₂ late (funext fun n => Finset.sum_congr rfl fun d _ => congrArg₂ (· * ·) ?_ ?_) (funext fun n => ?_))
    all_goals
      try generalize iblk m c 0 t = X
      try generalize iblk m c 1 t = Y
      try generalize iblk m c 2 t = Z
      pointwise
      refine congrArg _ (congrArg₂ (ix3 0) (Fin.ext ?_) (Fin.ext ?_)) <;> first | rfl | (dsimp only; omega)

/-- The context tile sees the 256 context keys. -/
theorem context (c : Dev nD) (t : Fin cfg0.N) (c0 : ¬t.val % 9 ≤ 7) (c1 : t.val % 9 = 8) (y : S1x256x512.Idx)
    (p : Fin 4) (l : Fin 128) (hy : (y 2 : ℕ) = 128 * p + l) :
    outsAt0 m c t.val t.isLt y
      = head 256 2048 (by omega) (iblk m c 0 t) (iblk m c 1 t) (iblk m c 2 t) (y 1) ⟨2 * p, by omega⟩ l
        + head 256 2048 (by omega) (iblk m c 0 t) (iblk m c 1 t) (iblk m c 2 t) (y 1) ⟨2 * p + 1, by omega⟩ l := by
  rw [outsAt0_B m c t c0 c1]
  frame_out
  canon_tiles x h
  all_goals
    have ex : x = (ix3 0 ⟨(x 1).val, x1_lt⟩ ⟨(x 2).val, x2_lt⟩ : S1x256x128.Idx) := by blk_ext
    first
      | rw [fourth_context]
      | rw [third_context]
      | rw [second_context]
      | rw [first_context]
    rw [pair_context _ _ _ _ _ _ x _ _ ex]
    unfold head
    refine congrArg₂ (· + ·)
      (congrArg₂ late (funext fun n => Finset.sum_congr rfl fun d _ => congrArg₂ (· * ·) ?_ ?_) (funext fun n => ?_))
      (congrArg₂ late (funext fun n => Finset.sum_congr rfl fun d _ => congrArg₂ (· * ·) ?_ ?_) (funext fun n => ?_))
    all_goals
      try generalize iblk m c 0 t = X
      try generalize iblk m c 1 t = Y
      try generalize iblk m c 2 t = Z
      pointwise
      refine congrArg _ (congrArg₂ (ix3 0) (Fin.ext ?_) (Fin.ext ?_)) <;> first | rfl | (dsimp only; omega)

end Cert.MlaIdeal.Block

end
-- ==== Proof.MlaOperands.lean ====
/-
  What the latent-projected attention's call finds in its three operands: the scaled queries and the keys, each
  head's 96 lanes filled up with zeros to 128, and the values, each head's 64 lanes in the half of 128 lanes that
  the head's parity names.
-/
module

public import proofs.«01_k».proof.Proof.Gen.MlaIdeal.Value
public import Idealize.ShloMosaic.Lib.Pipeline.ValueKit
public import Idealize.ShloMosaic.Lib.Pointwise
public import Idealize.ShloMosaic.Lib.Claim

@[expose] public section

set_option maxRecDepth 16384

noncomputable section

namespace Cert.MlaIdeal.Operands

open Cert.MlaIdeal Cert.MlaIdeal.Gen Idealize.ShloMosaic Idealize.ShloMosaic.TcCoe Idealize.SL.Sem

/-- Four axes joined to three: the last two become one. -/
theorem joined_at {n0 n1 n2 n3 n : ℕ} (x : FVec Ideal ⟨4, ![n0, n1, n2, n3]⟩ .f32)
    (h : (⟨4, ![n0, n1, n2, n3]⟩ : Shape).ShapeCasts ⟨3, ![n0, n1, n]⟩) (hn : n = n2 * n3)
    (i : Fin n0) (j : Fin n1) (k : Fin n2) (l : Fin n3) (e : Fin n) (he : e.val = k.val * n3 + l.val) :
    shapeCast ⟨3, ![n0, n1, n]⟩ x h (ix3 i j e) = x (ix4 i j k l) := by
  refine shapeCast_apply _ _ _ _ ?_
  rw [Shape.rowMajor_val_four, Shape.rowMajor_val_three]
  show ((i.val * n1 + j.val) * n2 + k.val) * n3 + l.val = (i.val * n1 + j.val) * n + e.val
  rw [he, hn]
  ring

/-- Two heads side by side in one group of lanes. -/
theorem paired_at {n0 n1 n2 n3 n2' n3' : ℕ} (x : FVec Ideal ⟨4, ![n0, n1, n2, n3]⟩ .f32)
    (h : (⟨4, ![n0, n1, n2, n3]⟩ : Shape).ShapeCasts ⟨4, ![n0, n1, n2', n3']⟩) (h2 : n2 = n2' * 2) (h3 : n3' = 2 * n3)
    (i : Fin n0) (j : Fin n1) (p : Fin n2') (l : Fin n3') (k : Fin n2) (d : Fin n3) (e : Fin 2) (hk : k.val = p.val * 2 + e.val)
    (hl : l.val = e.val * n3 + d.val) :
    shapeCast ⟨4, ![n0, n1, n2', n3']⟩ x h (ix4 i j p l) = x (ix4 i j k d) := by
  refine shapeCast_apply _ _ _ _ ?_
  rw [Shape.rowMajor_val_four, Shape.rowMajor_val_four]
  show ((i.val * n1 + j.val) * n2 + k.val) * n3 + d.val = ((i.val * n1 + j.val) * n2' + p.val) * n3' + l.val
  rw [hk, hl, h2, h3]
  ring

/-- Over the reals a cast changes nothing. -/
theorem cast_at {s : Shape} (x : FVec Ideal s .f32) (h : FTy.bits .bf16 < FTy.bits .f32) (i : s.Idx) :
    truncf (F := Ideal) .bf16 x h i = x i := rfl

/-- Heads of 96 lanes filled up with zeros to 128. -/
def filled (x : FVec Ideal S8x2304x8x96 .f32) : FVec Ideal S8x2304x8x128 .f32 :=
  concatenate S8x2304x8x128 3
    [⟨S8x2304x8x96, x⟩, ⟨S8x2304x8x32, broadcastInDim S8x2304x8x32 ![] bcast_S_S8x2304x8x32 (constant (F := Ideal) S_ .f32 0x00000000#32)⟩]
    concatenates_S8x2304x8x96_S8x2304x8x32_S8x2304x8x128_d3

theorem filled_at (x : FVec Ideal S8x2304x8x96 .f32) (b : Fin 8) (t : Fin 2304) (h : Fin 8) (d : Fin 128) :
    filled x (ix4 b t h d) = if e : d.val < 96 then x (ix4 b t h ⟨d.val, e⟩) else 0 := by
  pointwise [filled]

/-- The filled heads, side by side. -/
def padded (x : FVec Ideal S8x2304x8x96 .f32) : FVec Ideal S8x2304x1024 .bf16 :=
  truncf (F := Ideal) .bf16 (shapeCast _ (concatenate S8x2304x8x128 3
    [⟨S8x2304x8x96, x⟩, ⟨S8x2304x8x32, broadcastInDim S8x2304x8x32 ![] bcast_S_S8x2304x8x32 (constant (F := Ideal) S_ .f32 0x00000000#32)⟩]
    concatenates_S8x2304x8x96_S8x2304x8x32_S8x2304x8x128_d3) shapeCasts_S8x2304x8x128_S8x2304x1024) bitsLt_bf16_f32

theorem padded_eq (x : FVec Ideal S8x2304x8x96 .f32) :
    padded x = truncf (F := Ideal) .bf16 (shapeCast _ (filled x) shapeCasts_S8x2304x8x128_S8x2304x1024) bitsLt_bf16_f32 := rfl

/-- Lane `d` of the 128 of head `h`: the head's lane, or a zero after its 96. -/
theorem padded_at (x : FVec Ideal S8x2304x8x96 .f32) (b : Fin 8) (t : Fin 2304) (h : Fin 8) (d : Fin 128) :
    padded x (ix3 b t ⟨128 * h.val + d.val, by omega⟩)
      = if e : d.val < 96 then x (ix4 b t h ⟨d.val, e⟩) else 0 := by
  rw [padded_eq, cast_at, joined_at (filled x) shapeCasts_S8x2304x8x128_S8x2304x1024 rfl b t h d _ (by dsimp only; omega)]
  exact filled_at x b t h d

/-- Groups of two heads of 64 lanes in 256: the even one first, the odd one last, zeros between them. -/
def apart (x : FVec Ideal S8x2304x4x128 .f32) : FVec Ideal S8x2304x4x256 .f32 :=
  concatenate S8x2304x4x256 3
    [⟨S8x2304x4x64, extractStridedSlice S8x2304x4x64 ![0, 0, 0, 0] x slices_S8x2304x4x128_S8x2304x4x64_0_0_0_0⟩,
     ⟨S8x2304x4x64, broadcastInDim S8x2304x4x64 ![] bcast_S_S8x2304x4x64 (constant (F := Ideal) S_ .f32 0x00000000#32)⟩,
     ⟨S8x2304x4x64, broadcastInDim S8x2304x4x64 ![] bcast_S_S8x2304x4x64 (constant (F := Ideal) S_ .f32 0x00000000#32)⟩,
     ⟨S8x2304x4x64, extractStridedSlice S8x2304x4x64 ![0, 0, 0, 64] x slices_S8x2304x4x128_S8x2304x4x64_0_0_0_64⟩]
    concatenates_S8x2304x4x64_S8x2304x4x64_S8x2304x4x64_S8x2304x4x64_S8x2304x4x256_d3

/-- Lane `l` of the 128 of head `e` of a group: the head's lane in the half of its parity, zero in the other. -/
theorem apart_at (x : FVec Ideal S8x2304x4x128 .f32) (b : Fin 8) (t : Fin 2304) (p : Fin 4) (e : Fin 2) (l : Fin 128) :
    apart x (ix4 b t p ⟨128 * e.val + l.val, by omega⟩)
      = if l.val / 64 = e.val then x (ix4 b t p ⟨64 * e.val + l.val % 64, by omega⟩) else 0 := by
  pointwise [apart]
  have he : e.val < 2 := e.isLt
  by_cases c : l.val / 64 = e.val
  · rw [if_pos c]
    split_ifs
    all_goals first
      | (exfalso; omega)
      | (refine congrArg x ((ix4_inj ..).2 ⟨rfl, rfl, rfl, Fin.ext ?_⟩); dsimp only; omega)
  · rw [if_neg c]
    split_ifs
    all_goals first
      | rfl
      | (exfalso; omega)

/-- The heads of 64 lanes, each in the half of 128 lanes that its parity names. -/
def spread (x : FVec Ideal S8x2304x8x64 .f32) : FVec Ideal S8x2304x1024 .bf16 :=
  truncf (F := Ideal) .bf16 (shapeCast _ (concatenate S8x2304x4x256 3
    [⟨S8x2304x4x64, extractStridedSlice S8x2304x4x64 ![0, 0, 0, 0] (shapeCast S8x2304x4x128 x shapeCasts_S8x2304x8x64_S8x2304x4x128) slices_S8x2304x4x128_S8x2304x4x64_0_0_0_0⟩,
     ⟨S8x2304x4x64, broadcastInDim S8x2304x4x64 ![] bcast_S_S8x2304x4x64 (constant (F := Ideal) S_ .f32 0x00000000#32)⟩,
     ⟨S8x2304x4x64, broadcastInDim S8x2304x4x64 ![] bcast_S_S8x2304x4x64 (constant (F := Ideal) S_ .f32 0x00000000#32)⟩,
     ⟨S8x2304x4x64, extractStridedSlice S8x2304x4x64 ![0, 0, 0, 64] (shapeCast S8x2304x4x128 x shapeCasts_S8x2304x8x64_S8x2304x4x128) slices_S8x2304x4x128_S8x2304x4x64_0_0_0_64⟩]
    concatenates_S8x2304x4x64_S8x2304x4x64_S8x2304x4x64_S8x2304x4x64_S8x2304x4x256_d3) shapeCasts_S8x2304x4x256_S8x2304x1024) bitsLt_bf16_f32

theorem spread_eq (x : FVec Ideal S8x2304x8x64 .f32) :
    spread x = truncf (F := Ideal) .bf16 (shapeCast _ (apart (shapeCast _ x shapeCasts_S8x2304x8x64_S8x2304x4x128)) shapeCasts_S8x2304x4x256_S8x2304x1024)
      bitsLt_bf16_f32 := rfl

/-- Lane `l` of the 128 of head `h`: the head's lane in the half of the head's parity, zero in the other. -/
theorem spread_at (x : FVec Ideal S8x2304x8x64 .f32) (b : Fin 8) (t : Fin 2304) (h : Fin 8) (l : Fin 128) :
    spread x (ix3 b t ⟨128 * h.val + l.val, by omega⟩)
      = if l.val / 64 = h.val % 2 then x (ix4 b t h ⟨l.val % 64, by omega⟩) else 0 := by
  rw [spread_eq, cast_at, joined_at _ shapeCasts_S8x2304x4x256_S8x2304x1024 rfl b t (⟨h.val / 2, by omega⟩ : Fin 4)
    (⟨128 * (h.val % 2) + l.val, by omega⟩ : Fin 256) _ (by dsimp only; omega),
    apart_at _ b t ⟨h.val / 2, by omega⟩ ⟨h.val % 2, by omega⟩ l]
  by_cases c : l.val / 64 = h.val % 2
  · rw [if_pos c, if_pos c]
    exact paired_at x _ rfl rfl b t _ _ h ⟨l.val % 64, by omega⟩ ⟨h.val % 2, by omega⟩ (by dsimp only; omega) (by dsimp only; omega)
  · rw [if_neg c, if_neg c]

variable (m : (ℓ : Loc nD τ sig) → Buf (Elt Ideal) ℓ)

/-- The query operand: the query argument times the attention's scale, filled up. -/
theorem queries (c : Dev nD) : V m c main_v12 = padded (mulf (m ((c : Thread nD τ).loc main_arg0)) (broadcastInDim S8x2304x8x96 ![] bcast_S_S8x2304x8x96 (constant (F := Ideal) S_ .f32 0x3DD105EC#32))) := by
  unfold padded; entry_read; rfl

/-- The key operand: the key argument, filled up. -/
theorem keys (c : Dev nD) : V m c main_v15 = padded (m ((c : Thread nD τ).loc main_arg1)) := by
  unfold padded; entry_read; rfl

/-! The value operand, one host operation after the other. -/

theorem zeros (c : Dev nD) : V m c main_v1 = broadcastInDim S8x2304x4x64 ![] bcast_S_S8x2304x4x64 (constant (F := Ideal) S_ .f32 0x00000000#32) := by
  entry_read; rfl

theorem groups (c : Dev nD) : V m c main_v2 = shapeCast S8x2304x4x128 (m ((c : Thread nD τ).loc main_arg2)) shapeCasts_S8x2304x8x64_S8x2304x4x128 := by
  entry_read; rfl

theorem evens (c : Dev nD) : V m c main_v3 = extractStridedSlice S8x2304x4x64 ![0, 0, 0, 0] (V m c main_v2) slices_S8x2304x4x128_S8x2304x4x64_0_0_0_0 := rfl

theorem odds (c : Dev nD) : V m c main_v4 = extractStridedSlice S8x2304x4x64 ![0, 0, 0, 64] (V m c main_v2) slices_S8x2304x4x128_S8x2304x4x64_0_0_0_64 := rfl

theorem parts (c : Dev nD) : V m c main_v5 = concatenate S8x2304x4x256 3
    [⟨S8x2304x4x64, V m c main_v3⟩, ⟨S8x2304x4x64, V m c main_v1⟩, ⟨S8x2304x4x64, V m c main_v1⟩, ⟨S8x2304x4x64, V m c main_v4⟩]
    concatenates_S8x2304x4x64_S8x2304x4x64_S8x2304x4x64_S8x2304x4x64_S8x2304x4x256_d3 := rfl

theorem lanes (c : Dev nD) : V m c main_v6 = shapeCast S8x2304x1024 (V m c main_v5) shapeCasts_S8x2304x4x256_S8x2304x1024 := rfl

theorem rounded (c : Dev nD) : V m c main_v7 = truncf (F := Ideal) .bf16 (V m c main_v6) bitsLt_bf16_f32 := rfl

/-- The value operand: the value argument, spread. -/
theorem values (c : Dev nD) : V m c main_v7 = spread (m ((c : Thread nD τ).loc main_arg2)) := by
  rw [rounded, lanes, parts, evens, odds, zeros, groups]
  unfold spread
  with_reducible rfl

end Cert.MlaIdeal.Operands

end
-- ==== Proof.MlaReference.lean ====
/-
  What the reference of the latent-projected attention computes, read at one element of its result: the latent rows
  attend over every key, the context rows over the context keys.
-/
module

public import proofs.«01_k».proof.Proof.Softmax
public import proofs.«01_k».proof.Proof.Gen.MlaRefIdeal.Run
public import Idealize.ShloMosaic.Lib.Pipeline.ValueKit
public import Idealize.ShloMosaic.Lib.Pointwise

@[expose] public section

set_option maxRecDepth 16384

noncomputable section

namespace Cert.MlaRefIdeal.Value

open Cert.MlaRefIdeal Cert.MlaRefIdeal.Gen Attn Idealize.ShloMosaic Idealize.ShloMosaic.TcCoe Idealize.SL.Sem

variable (Q K : FVec Ideal S8x2304x8x96 .f32) (V : FVec Ideal S8x2304x8x64 .f32)

/-- The scores of the latent rows. -/
def scoresL : FVec Ideal S8x8x1x2048x2304 .f32 :=
  (mulf (transpose S8x8x1x2048x2304 [0, 1, 4, 3, 2] (Host.dotGeneral dot_S8x2304x8x96_S8x2048x8x1x96_S8x8x2304x2048x1_3_4_1_13_02_02 none K (extractStridedSlice S8x2048x8x1x96 ![0, 0, 0, 0, 0] (broadcastInDim S8x2304x8x1x96 ![0, 1, 2, 4] bcast_S8x2304x8x96_S8x2304x8x1x96_0_1_2_4 Q) slices_S8x2304x8x1x96_S8x2048x8x1x96_0_0_0_0_0)) transposes_S8x8x2304x2048x1_S8x8x1x2048x2304_0_1_4_3_2) (broadcastInDim S8x8x1x2048x2304 ![] bcast_S_S8x8x1x2048x2304 (constant S_ .f32 0x3DD105EC#32)))

/-- The scores of the context rows. -/
def scoresC : FVec Ideal S8x8x1x256x256 .f32 :=
  (mulf (transpose S8x8x1x256x256 [0, 1, 4, 3, 2] (Host.dotGeneral dot_S8x256x8x96_S8x256x8x1x96_S8x8x256x256x1_3_4_1_13_02_02 none (extractStridedSlice S8x256x8x96 ![0, 2048, 0, 0] K slices_S8x2304x8x96_S8x256x8x96_0_2048_0_0) (extractStridedSlice S8x256x8x1x96 ![0, 2048, 0, 0, 0] (broadcastInDim S8x2304x8x1x96 ![0, 1, 2, 4] bcast_S8x2304x8x96_S8x2304x8x1x96_0_1_2_4 Q) slices_S8x2304x8x1x96_S8x256x8x1x96_0_2048_0_0_0)) transposes_S8x8x256x256x1_S8x8x1x256x256_0_1_4_3_2) (broadcastInDim S8x8x1x256x256 ![] bcast_S_S8x8x1x256x256 (constant S_ .f32 0x3DD105EC#32)))

/-- The greatest score of each latent row. -/
def maxL (S : FVec Ideal S8x8x1x2048x2304 .f32) : FVec Ideal S8x8x1x2048 .f32 :=
  (maximumf (broadcastInDim S8x8x1x2048 ![] bcast_S_S8x8x1x2048 (constant S_ .f32 0xFF800000#32)) (Host.reduce FloatOps.maximumf S (constant S_ .f32 0xFF800000#32) reducesTo_S8x8x1x2048x2304_S8x8x1x2048_d4 h_S_))

/-- The greatest score of each context row. -/
def maxC (S : FVec Ideal S8x8x1x256x256 .f32) : FVec Ideal S8x8x1x256 .f32 :=
  (maximumf (broadcastInDim S8x8x1x256 ![] bcast_S_S8x8x1x256 (constant S_ .f32 0xFF800000#32)) (Host.reduce FloatOps.maximumf S (constant S_ .f32 0xFF800000#32) reducesTo_S8x8x1x256x256_S8x8x1x256_d4 h_S_))

/-- The latent rows' scores, shifted and exponentiated. -/
def expL (S : FVec Ideal S8x8x1x2048x2304 .f32) (M : FVec Ideal S8x8x1x2048 .f32) : FVec Ideal S8x8x1x2048x2304 .f32 :=
  (Host.exp (subf S (broadcastInDim S8x8x1x2048x2304 ![0, 1, 2, 3, 4] bcast_S8x8x1x2048x1_S8x8x1x2048x2304_0_1_2_3_4 (broadcastInDim S8x8x1x2048x1 ![0, 1, 2, 3] bcast_S8x8x1x2048_S8x8x1x2048x1_0_1_2_3 M))))

/-- The context rows' scores, shifted and exponentiated. -/
def expC (S : FVec Ideal S8x8x1x256x256 .f32) (M : FVec Ideal S8x8x1x256 .f32) : FVec Ideal S8x8x1x256x256 .f32 :=
  (Host.exp (subf S (broadcastInDim S8x8x1x256x256 ![0, 1, 2, 3, 4] bcast_S8x8x1x256x1_S8x8x1x256x256_0_1_2_3_4 (broadcastInDim S8x8x1x256x1 ![0, 1, 2, 3] bcast_S8x8x1x256_S8x8x1x256x1_0_1_2_3 M))))

/-- The latent rows' exponentials, each divided by its row's sum. -/
def probsL (E : FVec Ideal S8x8x1x2048x2304 .f32) : FVec Ideal S8x8x1x2048x2304 .f32 :=
  (Host.divf E (broadcastInDim S8x8x1x2048x2304 ![0, 1, 2, 3, 4] bcast_S8x8x1x2048x1_S8x8x1x2048x2304_0_1_2_3_4 (broadcastInDim S8x8x1x2048x1 ![0, 1, 2, 3] bcast_S8x8x1x2048_S8x8x1x2048x1_0_1_2_3 (Host.reduceAdd E (constant S_ .f32 0x00000000#32) reducesTo_S8x8x1x2048x2304_S8x8x1x2048_d4 h_S_))))

/-- The context rows' exponentials, each divided by its row's sum. -/
def probsC (E : FVec Ideal S8x8x1x256x256 .f32) : FVec Ideal S8x8x1x256x256 .f32 :=
  (Host.divf E (broadcastInDim S8x8x1x256x256 ![0, 1, 2, 3, 4] bcast_S8x8x1x256x1_S8x8x1x256x256_0_1_2_3_4 (broadcastInDim S8x8x1x256x1 ![0, 1, 2, 3] bcast_S8x8x1x256_S8x8x1x256x1_0_1_2_3 (Host.reduceAdd E (constant S_ .f32 0x00000000#32) reducesTo_S8x8x1x256x256_S8x8x1x256_d4 h_S_))))

/-- The latent rows of the result, from their probabilities. -/
def mixL (P : FVec Ideal S8x8x1x2048x2304 .f32) : FVec Ideal S8x2048x512 .f32 :=
  (shapeCast _ (transpose S8x2048x8x1x64 [0, 4, 1, 3, 2] (Host.dotGeneral dot_S8x2304x8x64_S8x8x1x2048x2304_S8x8x64x1x2048_1_4_3_23_02_01 none V P) transposes_S8x8x64x1x2048_S8x2048x8x1x64_0_4_1_3_2) shapeCasts_S8x2048x8x1x64_S8x2048x512)

/-- The context rows of the result, from their probabilities. -/
def mixC (P : FVec Ideal S8x8x1x256x256 .f32) : FVec Ideal S8x256x512 .f32 :=
  (shapeCast _ (transpose S8x256x8x1x64 [0, 4, 1, 3, 2] (Host.dotGeneral dot_S8x256x8x64_S8x8x1x256x256_S8x8x64x1x256_1_4_3_23_02_01 none (extractStridedSlice S8x256x8x64 ![0, 2048, 0, 0] V slices_S8x2304x8x64_S8x256x8x64_0_2048_0_0) P) transposes_S8x8x64x1x256_S8x256x8x1x64_0_4_1_3_2) shapeCasts_S8x256x8x1x64_S8x256x512)

/-- The latent rows followed by the context rows. -/
def join (A : FVec Ideal S8x2048x512 .f32) (B : FVec Ideal S8x256x512 .f32) : FVec Ideal S8x2304x512 .bf16 :=
  truncf .bf16 (concatenate S8x2304x512 1 [⟨S8x2048x512, A⟩, ⟨S8x256x512, B⟩] concatenates_S8x2048x512_S8x256x512_S8x2304x512_d1) bitsLt_bf16_f32

/-- The reference's result, over its three arguments. -/
def res : FVec Ideal S8x2304x512 .bf16 :=
  join (mixL V (probsL (expL (scoresL Q K) (maxL (scoresL Q K))))) (mixC V (probsC (expC (scoresC Q K) (maxC (scoresC Q K)))))

/-- The composed term of the reference's run is `res` of the arguments. -/
theorem res_main (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2)) := rfl

/-- The score of row `i` of head `g` against key `n`; every head is a group of one. -/
def score (b : Fin 8) (g : Fin 8) (j : Fin 1) (i n : Fin 2304) : EReal :=
  (∑ d : Fin 96, K (ix4 b n g d) * Q (ix4 b i g d)) * Ideal.ofBits .f32 0x3DD105EC#32

/-- The value which key `n` gives to output lane `l`. -/
def value (b : Fin 8) (n : Fin 2304) (l : Fin 512) : EReal :=
  V (ix4 b n ⟨l.val / 64, by omega⟩ ⟨l.val % 64, by omega⟩)

/-- One element of the attention of row `i` over the `n` keys from key `s` on. -/
def attend (n s : ℕ) (hs : s + n ≤ 2304) (b : Fin 8) (i : Fin 2304) (l : Fin 512) : EReal :=
  early (fun k : Fin n => score Q K b ⟨l.val / 64, by omega⟩ 0 i ⟨s + k.val, by omega⟩)
    (fun k => value V b ⟨s + k.val, by omega⟩ l)

theorem maxL_at (S : FVec Ideal S8x8x1x2048x2304 .f32) (b : Fin 8) (g : Fin 8) (j : Fin 1) (i : Fin 2048) :
    maxL S (ix4 b g j i) = peak fun n => S (ix5 b g j i n) := by
  unfold maxL
  rw [maximumf_at, reduce_last]
  exact max_start_peak _

theorem maxC_at (S : FVec Ideal S8x8x1x256x256 .f32) (b : Fin 8) (g : Fin 8) (j : Fin 1) (i : Fin 256) :
    maxC S (ix4 b g j i) = peak fun n => S (ix5 b g j i n) := by
  unfold maxC
  rw [maximumf_at, reduce_last]
  exact max_start_peak _

theorem expL_at (S : FVec Ideal S8x8x1x2048x2304 .f32) (M : FVec Ideal S8x8x1x2048 .f32) (b : Fin 8) (g : Fin 8) (j : Fin 1) (i : Fin 2048) (n : Fin 2304) :
    expL S M (ix5 b g j i n) = Ideal.exp (S (ix5 b g j i n) - M (ix4 b g j i)) := by
  obtain rfl : j = 0 := Subsingleton.elim _ _
  pointwise [expL]

theorem expC_at (S : FVec Ideal S8x8x1x256x256 .f32) (M : FVec Ideal S8x8x1x256 .f32) (b : Fin 8) (g : Fin 8) (j : Fin 1) (i : Fin 256) (n : Fin 256) :
    expC S M (ix5 b g j i n) = Ideal.exp (S (ix5 b g j i n) - M (ix4 b g j i)) := by
  obtain rfl : j = 0 := Subsingleton.elim _ _
  pointwise [expC]

theorem probsL_at (E : FVec Ideal S8x8x1x2048x2304 .f32) (b : Fin 8) (g : Fin 8) (j : Fin 1) (i : Fin 2048) (n : Fin 2304) :
    probsL E (ix5 b g j i n) = Ideal.div (E (ix5 b g j i n)) (∑ n, E (ix5 b g j i n)) := by
  obtain rfl : j = 0 := Subsingleton.elim _ _
  pointwise [probsL]

theorem probsC_at (E : FVec Ideal S8x8x1x256x256 .f32) (b : Fin 8) (g : Fin 8) (j : Fin 1) (i : Fin 256) (n : Fin 256) :
    probsC E (ix5 b g j i n) = Ideal.div (E (ix5 b g j i n)) (∑ n, E (ix5 b g j i n)) := by
  obtain rfl : j = 0 := Subsingleton.elim _ _
  pointwise [probsC]

theorem scoresL_at (b : Fin 8) (g : Fin 8) (j : Fin 1) (i : Fin 2048) (n : Fin 2304) :
    scoresL Q K (ix5 b g j i n) = score Q K b g j ⟨i.val, by omega⟩ n := by
  unfold score
  pointwise [scoresL]

theorem scoresC_at (b : Fin 8) (g : Fin 8) (j : Fin 1) (i : Fin 256) (n : Fin 256) :
    scoresC Q K (ix5 b g j i n) = score Q K b g j ⟨2048 + i.val, by omega⟩ ⟨2048 + n.val, by omega⟩ := by
  unfold score
  pointwise [scoresC]

theorem mixL_at (P : FVec Ideal S8x8x1x2048x2304 .f32) (b : Fin 8) (i : Fin 2048) (l : Fin 512) :
    mixL V P (ix3 b i l) = ∑ n : Fin 2304, V (ix4 b n ⟨l.val / 64, by omega⟩ ⟨l.val % 64, by omega⟩)
      * P (ix5 b ⟨l.val / 64, by omega⟩ 0 i n) := by
  pointwise [mixL]

theorem mixC_at (P : FVec Ideal S8x8x1x256x256 .f32) (b : Fin 8) (i : Fin 256) (l : Fin 512) :
    mixC V P (ix3 b i l) = ∑ n : Fin 256, V (ix4 b ⟨2048 + n.val, by omega⟩ ⟨l.val / 64, by omega⟩ ⟨l.val % 64, by omega⟩)
      * P (ix5 b ⟨l.val / 64, by omega⟩ 0 i n) := by
  pointwise [mixC]

/-- A latent row of the result: its attention over every key. -/
theorem latent_at (b : Fin 8) (i : Fin 2048) (l : Fin 512) :
    mixL V (probsL (expL (scoresL Q K) (maxL (scoresL Q K)))) (ix3 b i l)
      = attend Q K V 2304 0 (by omega) b ⟨i.val, by omega⟩ l := by
  rw [mixL_at]
  unfold attend early mass weight value
  refine Finset.sum_congr rfl fun n _ => ?_
  simp only [probsL_at, expL_at, maxL_at, scoresL_at, zero_add]
  exact mul_comm _ _

/-- A context row of the result: its attention over the context keys. -/
theorem context_at (b : Fin 8) (i : Fin 256) (l : Fin 512) :
    mixC V (probsC (expC (scoresC Q K) (maxC (scoresC Q K)))) (ix3 b i l)
      = attend Q K V 256 2048 (by omega) b ⟨2048 + i.val, by omega⟩ l := by
  rw [mixC_at]
  unfold attend early mass weight value
  refine Finset.sum_congr rfl fun n _ => ?_
  simp only [probsC_at, expC_at, maxC_at, scoresC_at]
  exact mul_comm _ _

theorem join_latent (A : FVec Ideal S8x2048x512 .f32) (B : FVec Ideal S8x256x512 .f32) (b : Fin 8) (i : Fin 2304) (l : Fin 512)
    (hi : i.val < 2048) : join A B (ix3 b i l) = A (ix3 b ⟨i.val, hi⟩ l) := by
  pointwise [join]
  rw [dif_pos hi]

theorem join_context (A : FVec Ideal S8x2048x512 .f32) (B : FVec Ideal S8x256x512 .f32) (b : Fin 8) (i : Fin 256) (l : Fin 512) :
    join A B (ix3 b ⟨2048 + i.val, by omega⟩ l) = B (ix3 b i l) := by
  pointwise [join]

/-- The reference's result on its latent rows. -/
theorem res_latent (b : Fin 8) (i : Fin 2304) (l : Fin 512) (hi : i.val < 2048) :
    res Q K V (ix3 b i l) = attend Q K V 2304 0 (by omega) b i l :=
  (join_latent _ _ b i l hi).trans (latent_at Q K V b ⟨i.val, hi⟩ l)

/-- The reference's result on its context rows. -/
theorem res_context (b : Fin 8) (i : Fin 256) (l : Fin 512) :
    res Q K V (ix3 b ⟨2048 + i.val, by omega⟩ l) = attend Q K V 256 2048 (by omega) b ⟨2048 + i.val, by omega⟩ l :=
  (join_context _ _ b i l).trans (context_at Q K V b i l)

end Cert.MlaRefIdeal.Value

end
-- ==== Proof.MlaEquation.lean ====
/-
  The latent attention's equation on arrays: the two heads the kernel adds in one group of 128 lanes, each over queries
  and keys filled up with zeros and values spread into their half of the lanes, are the reference's attention of the one
  head whose output lanes these are.
-/
module

public import proofs.«01_k».proof.Proof.MlaOperands
public import proofs.«01_k».proof.Proof.MlaReference
public import proofs.«01_k».proof.Proof.Finite

@[expose] public section

set_option maxRecDepth 16384

noncomputable section

namespace Cert.MlaIdeal.Equation

open Cert.MlaIdeal Cert.MlaIdeal.Gen Cert.MlaIdeal.Operands Attn Idealize.ShloMosaic Idealize.ShloMosaic.TcCoe Idealize.SL.Sem

/-- The attention's scale is a positive number. -/
theorem scale_eq : Ideal.ofBits .f32 0x3DD105EC#32 = ((3424635 / 33554432 : ℝ) : EReal) := by
  simp [Ideal.ofBits, Ideal.ieee, -EReal.coe_mul]
  norm_num

variable (q k : FVec Ideal S8x2304x8x96 .f32) (v : FVec Ideal S8x2304x8x64 .f32)

/-- The queries times the scale. -/
def scaled : FVec Ideal S8x2304x8x96 .f32 :=
  mulf q (broadcastInDim S8x2304x8x96 ![] bcast_S_S8x2304x8x96 (constant (F := Ideal) S_ .f32 0x3DD105EC#32))

theorem scaled_at (i : S8x2304x8x96.Idx) : scaled q i = q i * Ideal.ofBits .f32 0x3DD105EC#32 := rfl

/-- The scaled score of row `i` of head `h` against key `n`, of 96 products. -/
def score (b : Fin 8) (h : Fin 8) (i n : Fin 2304) : EReal :=
  (∑ d : Fin 96, k (ix4 b n h d) * q (ix4 b i h d)) * Ideal.ofBits .f32 0x3DD105EC#32

/-- The kernel's score, of 128 products of which the last 32 are zero. -/
theorem score_eq (b : Fin 8) (h : Fin 8) (i n : Fin 2304) :
    ∑ d : Fin 128, padded (scaled q) (ix3 b i ⟨128 * h.val + d.val, by omega⟩)
        * padded k (ix3 b n ⟨128 * h.val + d.val, by omega⟩)
      = score q k b h i n := by
  unfold score
  simp only [padded_at, scaled_at, scale_eq]
  rw [← scaled_dot (fun d : Fin 96 => q (ix4 b i h d)) (fun d : Fin 96 => k (ix4 b n h d)) (by norm_num),
    Fin.sum_univ_two_halves 96 32 rfl]
  refine (congrArg₂ (· + ·) (Finset.sum_congr rfl fun d _ => ?_) (Finset.sum_eq_zero fun d _ => ?_)).trans (add_zero _)
  · dsimp only
    rw [dif_pos (by omega), dif_pos (by omega)]
  · dsimp only
    rw [dif_neg (by omega), zero_mul]

/-- A score of real numbers is one. -/
theorem score_real (hq : ∀ i, IsReal (q i)) (hk : ∀ i, IsReal (k i)) (b : Fin 8) (h : Fin 8) (i n : Fin 2304) :
    IsReal (score q k b h i n) :=
  (IsReal.sum fun d => (hk _).mul (hq _)).mul ⟨_, scale_eq⟩

/-- Head `h` over the whole arrays, at lane `l` of its 128: what the kernel averages. -/
def head (n s : ℕ) (hs : s + n ≤ 2304) (b : Fin 8) (i : Fin 2304) (h : Fin 8) (l : Fin 128) : EReal :=
  late (fun e : Fin n => ∑ d : Fin 128, padded (scaled q) (ix3 b i ⟨128 * h.val + d.val, by omega⟩)
      * padded k (ix3 b ⟨s + e.val, by omega⟩ ⟨128 * h.val + d.val, by omega⟩))
    (fun e => spread v (ix3 b ⟨s + e.val, by omega⟩ ⟨128 * h.val + l.val, by omega⟩))

/-- Head `h` with its scores and its values read: the values are zero outside the half of the head's parity. -/
theorem head_eq (n s : ℕ) (hs : s + n ≤ 2304) (b : Fin 8) (i : Fin 2304) (h : Fin 8) (l : Fin 128) :
    head q k v n s hs b i h l
      = late (fun e : Fin n => score q k b h i ⟨s + e.val, by omega⟩)
          (fun e => if l.val / 64 = h.val % 2 then v (ix4 b ⟨s + e.val, by omega⟩ h ⟨l.val % 64, by omega⟩) else 0) :=
  congrArg₂ late (funext fun e => score_eq q k b h i _) (funext fun e => spread_at v b _ h l)

/-- The head whose output lanes hold lane `128 p + l`, averaged the reference's way, is the reference's attention there. -/
theorem early_eq (n s : ℕ) (hs : s + n ≤ 2304) (b : Fin 8) (i : Fin 2304) (p : Fin 4) (l : Fin 128) (h : Fin 8)
    (hh : h.val = 2 * p.val + l.val / 64) :
    early (fun e : Fin n => score q k b h i ⟨s + e.val, by omega⟩)
        (fun e => if l.val / 64 = h.val % 2 then v (ix4 b ⟨s + e.val, by omega⟩ h ⟨l.val % 64, by omega⟩) else 0)
      = Cert.MlaRefIdeal.Value.attend q k v n s hs b i ⟨128 * p + l, by omega⟩ := by
  have eh : h = ⟨(128 * p.val + l.val) / 64, by omega⟩ := Fin.ext (by dsimp only; omega)
  unfold Cert.MlaRefIdeal.Value.attend
  refine congrArg₂ early (funext fun e => ?_) (funext fun e => ?_)
  · unfold score Cert.MlaRefIdeal.Value.score
    refine congrArg (· * _) (Finset.sum_congr rfl fun d _ => congrArg₂ (· * ·) (congrArg k ?_) (congrArg q ?_))
    · exact (ix4_inj ..).2 ⟨rfl, rfl, eh, rfl⟩
    · exact (ix4_inj ..).2 ⟨rfl, rfl, eh, rfl⟩
  · rw [if_pos (by omega)]
    unfold Cert.MlaRefIdeal.Value.value
    exact congrArg v ((ix4_inj ..).2 ⟨rfl, rfl, eh, Fin.ext (by dsimp only; omega)⟩)

/-- THE EQUATION: the two heads of pair `p`, added, are the reference's attention at output lane `128 p + l`. -/
theorem pair_eq (hq : ∀ i, IsReal (q i)) (hk : ∀ i, IsReal (k i)) (n s : ℕ) (hn : 0 < n) (hs : s + n ≤ 2304)
    (b : Fin 8) (i : Fin 2304) (p : Fin 4) (l : Fin 128) :
    head q k v n s hs b i ⟨2 * p, by omega⟩ l + head q k v n s hs b i ⟨2 * p + 1, by omega⟩ l
      = Cert.MlaRefIdeal.Value.attend q k v n s hs b i ⟨128 * p + l, by omega⟩ := by
  have hr : ∀ h (e : Fin n), IsReal (score q k b h i ⟨s + e.val, by omega⟩) := fun h e => score_real q k hq hk b h i _
  rw [head_eq, head_eq]
  rcases Nat.lt_or_ge l.val 64 with e | e
  · rw [late_add_zero hn (hr _) (hr _) (fun e' => if_neg (by dsimp only; omega))]
    exact early_eq q k v n s hs b i p l _ (by dsimp only; omega)
  · rw [zero_add_late hn (hr _) (hr _) (fun e' => if_neg (by dsimp only; omega))]
    exact early_eq q k v n s hs b i p l _ (by dsimp only; omega)

end Cert.MlaIdeal.Equation

end
-- ==== Proof.MlaArray.lean ====
/-
  What the latent attention's call leaves in its result array: the reference's result, over the call's own
  arguments.
-/
module

public import proofs.«01_k».proof.Proof.MlaBlock
public import proofs.«01_k».proof.Proof.MlaEquation
public import proofs.«01_k».proof.Proof.Gen.Pre_mla_finite

@[expose] public section

set_option maxRecDepth 16384

noncomputable section

namespace Cert.MlaIdeal.Array

open Cert.MlaIdeal Cert.MlaIdeal.Gen Cert.MlaIdeal.Operands Attn Idealize.ShloMosaic Idealize.ShloMosaic.TcCoe Idealize.SL.Sem

variable (m : (ℓ : Loc nD τ sig) → Buf (Elt Ideal) ℓ)

/-- The four windows' block indices: batch item `t / 9`, tile `t % 9`; the keys and the values whole. -/
theorem idx : ∀ t : Fin cfg0.N, win0_0.index t = ![t.val / 9, t.val % 9, 0] ∧ win0_1.index t = ![t.val / 9, 0, 0]
    ∧ win0_2.index t = ![t.val / 9, 0, 0] ∧ win0_3.index t = ![t.val / 9, t.val % 9, 0] :=
  (by decide +kernel : ∀ t : Fin grid0.N, _)

/-! The three blocks of a point, as parts of the three operands. -/

theorem query_read (c : Dev nD) (t : Fin cfg0.N) : iblk m c 0 t = (win0_0.blk t).view.read (Elt Ideal) (V m c main_v12) := rfl

theorem query_place (t : Fin cfg0.N) (X : FVec Ideal S8x2304x1024 .bf16) (y : S1x256x1024.Idx) :
    (show FVec Ideal S1x256x1024 .bf16 from (win0_0.blk t).view.read (Elt Ideal) X) y = X ((win0_0.blk t).view.emb y) := rfl

theorem key_read (c : Dev nD) (t : Fin cfg0.N) : iblk m c 1 t = (win0_1.blk t).view.read (Elt Ideal) (V m c main_v15) := rfl

theorem key_place (t : Fin cfg0.N) (X : FVec Ideal S8x2304x1024 .bf16) (y : S1x2304x1024.Idx) :
    (show FVec Ideal S1x2304x1024 .bf16 from (win0_1.blk t).view.read (Elt Ideal) X) y = X ((win0_1.blk t).view.emb y) := rfl

theorem value_read (c : Dev nD) (t : Fin cfg0.N) : iblk m c 2 t = (win0_2.blk t).view.read (Elt Ideal) (V m c main_v7) := rfl

theorem value_place (t : Fin cfg0.N) (X : FVec Ideal S8x2304x1024 .bf16) (y : S1x2304x1024.Idx) :
    (show FVec Ideal S1x2304x1024 .bf16 from (win0_2.blk t).view.read (Elt Ideal) X) y = X ((win0_2.blk t).view.emb y) := rfl

/-- Row `r` of the query block of point `t`. -/
theorem query_block (c : Dev nD) (t : Fin cfg0.N) (b : Fin 8) (i : Fin 2304) (r : Fin 256) (d : Fin 1024) (hb : b.val = t.val / 9) (hi : i.val = 256 * (t.val % 9) + r.val) :
    (show FVec Ideal S1x256x1024 .bf16 from iblk m c 0 t) (ix3 0 r d) = padded (Equation.scaled (m ((c : Thread nD τ).loc main_arg0))) (ix3 b i d) := by
  have e : (win0_0.blk t).view.emb (ix3 0 r d : S1x256x1024.Idx) = (ix3 b i d : S8x2304x1024.Idx) := by blk_ext [idx t]
  rw [query_read, queries, query_place, e]
  unfold Equation.scaled
  with_reducible rfl

theorem key_block (c : Dev nD) (t : Fin cfg0.N) (b : Fin 8) (n : Fin 2304) (d : Fin 1024) (hb : b.val = t.val / 9) :
    (show FVec Ideal S1x2304x1024 .bf16 from iblk m c 1 t) (ix3 0 n d) = padded (m ((c : Thread nD τ).loc main_arg1)) (ix3 b n d) := by
  have e : (win0_1.blk t).view.emb (ix3 0 n d : S1x2304x1024.Idx) = (ix3 b n d : S8x2304x1024.Idx) := by blk_ext [idx t]
  rw [key_read, keys, key_place, e]

theorem value_block (c : Dev nD) (t : Fin cfg0.N) (b : Fin 8) (n : Fin 2304) (d : Fin 1024) (hb : b.val = t.val / 9) :
    (show FVec Ideal S1x2304x1024 .bf16 from iblk m c 2 t) (ix3 0 n d) = spread (m ((c : Thread nD τ).loc main_arg2)) (ix3 b n d) := by
  have e : (win0_2.blk t).view.emb (ix3 0 n d : S1x2304x1024.Idx) = (ix3 b n d : S8x2304x1024.Idx) := by blk_ext [idx t]
  rw [value_read, values, value_place, e]

/-- A head of one block is the head of the whole arrays at the block's batch item and row. -/
theorem head_block (c : Dev nD) (t : Fin cfg0.N) (b : Fin 8) (i : Fin 2304) (r : Fin 256)
    (hb : b.val = t.val / 9) (hi : i.val = 256 * (t.val % 9) + r.val) (n s : ℕ) (hs : s + n ≤ 2304) (h : Fin 8) (l : Fin 128) :
    Block.head n s hs (iblk m c 0 t) (iblk m c 1 t) (iblk m c 2 t) r h l
      = Equation.head (m ((c : Thread nD τ).loc main_arg0)) (m ((c : Thread nD τ).loc main_arg1)) (m ((c : Thread nD τ).loc main_arg2))
          n s hs b i h l :=
  congrArg₂ late
    (funext fun e => Finset.sum_congr rfl fun d _ => congrArg₂ (· * ·) (query_block m c t b i r _ hb hi) (key_block m c t b _ _ hb))
    (funext fun e => value_block m c t b _ _ hb)

/-- What the precondition gives. -/
theorem queries_real (q k : FVec Ideal S8x2304x8x96 .f32) (v : FVec Ideal S8x2304x8x64 .f32)
    (h : Cert.Pre_mla_finite.fn (F := Ideal) q k v = fun _ => 1#1) : (∀ i, IsReal (q i)) ∧ ∀ i, IsReal (k i) := by
  have e := congrFun h ix0
  unfold Cert.Pre_mla_finite.fn at e
  obtain ⟨e1, e2⟩ := IntOp.andi_eq_one.1 e
  exact ⟨isReal_of_all q _ _ _ _ _ e1, isReal_of_all k _ _ _ _ _ e2⟩

/-- THE RESULT of the call, given real queries and keys. -/
theorem final (c : Dev nD) (hq : ∀ i, IsReal ((show FVec Ideal S8x2304x8x96 .f32 from m ((c : Thread nD τ).loc main_arg0)) i))
    (hk : ∀ i, IsReal ((show FVec Ideal S8x2304x8x96 .f32 from m ((c : Thread nD τ).loc main_arg1)) i)) :
    (dats m 0 c).arrAt 3 (cfgs 0).N
      = Cert.MlaRefIdeal.Value.res (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 72 := t.isLt
  have h1 : (y 1).val < 256 := (y 1).isLt
  have h2 : (y 2).val < 512 := (y 2).isLt
  have e : (win0_3.blk t).view.emb y = (ix3 (⟨t.val / 9, by omega⟩ : Fin 8) (⟨256 * (t.val % 9) + (y 1).val, by omega⟩ : Fin 2304)
      (⟨128 * ((y 2).val / 128) + (y 2).val % 128, by omega⟩ : Fin 512) : S8x2304x512.Idx) := by
    blk_ext [idx t]
  rw [e]
  have hy : (y 2 : ℕ) = 128 * (⟨(y 2).val / 128, by omega⟩ : Fin 4).val + (⟨(y 2).val % 128, by omega⟩ : Fin 128).val := by
    dsimp only; omega
  rcases Nat.lt_or_ge (t.val % 9) 8 with ht | ht
  · rw [Block.latent m c t (by omega) (by omega) y _ _ hy, Cert.MlaRefIdeal.Value.res_latent _ _ _ _ _ _ (by dsimp only; omega),
      head_block m c t ⟨t.val / 9, by omega⟩ ⟨256 * (t.val % 9) + (y 1).val, by omega⟩ (y 1) rfl rfl,
      head_block m c t ⟨t.val / 9, by omega⟩ ⟨256 * (t.val % 9) + (y 1).val, by omega⟩ (y 1) rfl rfl]
    exact Equation.pair_eq _ _ _ hq hk _ _ (by omega) _ _ _ ⟨(y 2).val / 128, by omega⟩ ⟨(y 2).val % 128, by omega⟩
  · have h8 : t.val % 9 = 8 := by omega
    have er : (⟨256 * (t.val % 9) + (y 1).val, by omega⟩ : Fin 2304) = ⟨2048 + (⟨(y 1).val, h1⟩ : Fin 256).val, by dsimp only; omega⟩ :=
      Fin.ext (by dsimp only; omega)
    rw [Block.context m c t (by omega) (by omega) y _ _ hy,
      head_block m c t ⟨t.val / 9, by omega⟩ ⟨256 * (t.val % 9) + (y 1).val, by omega⟩ (y 1) rfl rfl,
      head_block m c t ⟨t.val / 9, by omega⟩ ⟨256 * (t.val % 9) + (y 1).val, by omega⟩ (y 1) rfl rfl, er,
      Cert.MlaRefIdeal.Value.res_context]
    exact Equation.pair_eq _ _ _ hq hk _ _ (by omega) _ _ _ ⟨(y 2).val / 128, by omega⟩ ⟨(y 2).val % 128, by omega⟩

end Cert.MlaIdeal.Array

end
-- ==== Proof.MlaClaim.lean ====
/-
  The claims about the latent attention: the three frames, that the idealization changes nothing, and that kernel and
  reference end with one result.
-/
module

public import proofs.«01_k».proof.Defs
public import Idealize.ShloMosaic.Lib.Claim
public import proofs.«01_k».proof.Proof.MlaArray
public import proofs.«01_k».proof.Proof.Gen.Mla.Frame
public import proofs.«01_k».proof.Proof.Gen.MlaIdeal.Frame
public import proofs.«01_k».proof.Proof.Gen.MlaRefIdeal.Run

@[expose] public section

set_option maxRecDepth 16384

noncomputable section

namespace Cert.MlaClaim

open Idealize.ShloMosaic Idealize.SL.Sem

theorem frame : Cert.quiescent_Mla := fun m ρ _ => Cert.Mla.Gen.frame m ρ

theorem frame_ideal : Cert.quiescent_MlaIdeal := fun m ρ _ => Cert.MlaIdeal.Gen.frame m ρ

theorem frame_ideal_pre : Cert.quiescent_MlaIdeal_pre_mla_finite := fun m ρ _ => Cert.MlaIdeal.Gen.frame m ρ

theorem frame_reference : Cert.quiescent_MlaRefIdeal := by
  intro m g _
  exact (θ_run _ _ _).mono (fun r h => ⟨fun c => (h c).2, sem_eq_zero_of_no_sems (by decide) _⟩) (Cert.MlaRefIdeal.Value.run m g)

theorem frame_reference_pre : Cert.quiescent_MlaRefIdeal_pre_mla_finite := by
  intro m g _
  exact (θ_run _ _ _).mono (fun r h => ⟨fun c => (h c).2, sem_eq_zero_of_no_sems (by decide) _⟩) (Cert.MlaRefIdeal.Value.run m g)

theorem preserves : Cert.preserves_Mla_MlaIdeal := trivial

/-- From real queries and keys the kernel and the reference end with one result. -/
theorem algebraic : Cert.algebraic_MlaIdeal_MlaRefIdeal_pre_mla_finite := by
  pair_intro
  · run_from Cert.MlaIdeal.Gen.run_main m g
  · run_from Cert.MlaRefIdeal.Value.run m' g'
    have hr := Cert.MlaIdeal.Array.queries_real _ _ _ (hpre c)
    refine Eq.trans ?_ (Cert.MlaIdeal.Array.final m c hr.1 hr.2).symm
    refine (Cert.MlaRefIdeal.Value.res_main m' c).trans ?_
    rw [(hagree c).1, (hagree c).2.1, (hagree c).2.2]

end Cert.MlaClaim

end
-- ==== Proof.Layer.lean ====
/-
  One row of a layer's modulated sub-blocks over the extended reals: the norm with its scale and shift and its projection,
  the expansion of a compressed row, the feed-forward block's row, the row of the merge of the three branches, and one entry of the
  modulation itself.
-/
module

public import Idealize.ShloMosaic.Lib.Pointwise

@[expose] public section

noncomputable section

namespace Layer

open Idealize.ShloMosaic

/-- A row, divided by its root mean square, times `g`, then scaled by one plus `sc` and shifted by `sh`. -/
def norm (x g sc sh : Fin 1024 → EReal) (k : Fin 1024) : EReal :=
  x k * Ideal.rsqrt (Ideal.div (∑ j, x j * x j) (Ideal.ofBits .f32 0x44800000#32) + Ideal.ofBits .f32 0x358637BD#32) * g k
    * (1 + sc k) + sh k

/-- One element of a normed row's projection on `w`. -/
def project (x g sc sh w : Fin 1024 → EReal) : EReal := ∑ k, norm x g sc sh k * w k

/-- Equal rows and weights give equal projections. -/
theorem project_congr {x x' g g' sc sc' sh sh' w w' : Fin 1024 → EReal} (hx : ∀ k, x k = x' k) (hg : ∀ k, g k = g' k)
    (hsc : ∀ k, sc k = sc' k) (hsh : ∀ k, sh k = sh' k) (hw : ∀ k, w k = w' k) :
    project x g sc sh w = project x' g' sc' sh' w' := by
  obtain rfl : x = x' := funext hx
  obtain rfl : g = g' := funext hg
  obtain rfl : sc = sc' := funext hsc
  obtain rfl : sh = sh' := funext hsh
  obtain rfl : w = w' := funext hw
  rfl

/-- One element of a compressed row's expansion: the row divided by its root mean square, times `g`, projected on `w`. -/
def expand (x g w : Fin 256 → EReal) : EReal :=
  ∑ k, x k * Ideal.rsqrt (Ideal.div (∑ j, x j * x j) (Ideal.ofBits .f32 0x43800000#32) + Ideal.ofBits .f32 0x358637BD#32) * g k * w k

/-- Equal rows and weights give equal expansions. -/
theorem expand_congr {x x' g g' w w' : Fin 256 → EReal} (hx : ∀ k, x k = x' k) (hg : ∀ k, g k = g' k) (hw : ∀ k, w k = w' k) :
    expand x g w = expand x' g' w' := by
  obtain rfl : x = x' := funext hx
  obtain rfl : g = g' := funext hg
  obtain rfl : w = w' := funext hw
  rfl

/-- One activation: the gate times its logistic, times the up projection. -/
def act (a u : EReal) : EReal := a * Ideal.logistic a * u

/-- One element of a feed-forward row: the row plus `gt` times the projected activations. -/
def feed (x g sc sh gt : Fin 1024 → EReal) (wi : Fin 1024 → Fin 5632 → EReal) (wo : Fin 2816 → Fin 1024 → EReal)
    (j : Fin 1024) : EReal :=
  x j + gt j * ∑ h : Fin 2816, act (∑ k, norm x g sc sh k * wi k ⟨h.val, by omega⟩)
    (∑ k, norm x g sc sh k * wi k ⟨2816 + h.val, by omega⟩) * wo h j

/-- Equal rows and weights give equal feed-forward rows. -/
theorem feed_congr {x x' g g' sc sc' sh sh' gt gt' : Fin 1024 → EReal} {wi wi' : Fin 1024 → Fin 5632 → EReal}
    {wo wo' : Fin 2816 → Fin 1024 → EReal} (hx : ∀ k, x k = x' k) (hg : ∀ k, g k = g' k) (hsc : ∀ k, sc k = sc' k)
    (hsh : ∀ k, sh k = sh' k) (hgt : ∀ k, gt k = gt' k) (hwi : ∀ k h, wi k h = wi' k h) (hwo : ∀ h k, wo h k = wo' h k)
    (j : Fin 1024) : feed x g sc sh gt wi wo j = feed x' g' sc' sh' gt' wi' wo' j := by
  obtain rfl : x = x' := funext hx
  obtain rfl : g = g' := funext hg
  obtain rfl : sc = sc' := funext hsc
  obtain rfl : sh = sh' := funext hsh
  obtain rfl : gt = gt' := funext hgt
  obtain rfl : wi = wi' := funext fun k => funext (hwi k)
  obtain rfl : wo = wo' := funext fun h => funext (hwo h)
  rfl

/-- One gate of a normed row. -/
def gate (n : Fin 1024 → EReal) (wg : Fin 1024 → Fin 3072 → EReal) (bg : Fin 3072 → EReal) (l : Fin 3072) : EReal :=
  Ideal.logistic ((∑ k, n k * wg k l) + bg l)

/-- One element of a merged row: the row plus `gt` times the projection of the three branches' gated sum. -/
def merge (x g sc sh gt : Fin 1024 → EReal) (ya yb yc : Fin 512 → EReal) (wg : Fin 1024 → Fin 3072 → EReal) (bg : Fin 3072 → EReal)
    (wa wb wc : Fin 512 → Fin 1024 → EReal) (wo : Fin 1024 → Fin 1024 → EReal) (j : Fin 1024) : EReal :=
  x j + gt j * ∑ k : Fin 1024,
    (gate (norm x g sc sh) wg bg ⟨k.val, by omega⟩ * (∑ d, ya d * wa d k)
      + gate (norm x g sc sh) wg bg ⟨1024 + k.val, by omega⟩ * (∑ d, yb d * wb d k)
      + gate (norm x g sc sh) wg bg ⟨2048 + k.val, by omega⟩ * (∑ d, yc d * wc d k)) * wo k j

/-- One modulation entry: the row times its logistic, projected on `w`, plus the bias. -/
def modulation (x w : Fin 1024 → EReal) (b : EReal) : EReal := (∑ k, x k * Ideal.logistic (x k) * w k) + b

/-- Equal rows, weights and biases give equal modulation entries. -/
theorem modulation_congr {x x' w w' : Fin 1024 → EReal} {b b' : EReal} (hx : ∀ k, x k = x' k) (hw : ∀ k, w k = w' k)
    (hb : b = b') : modulation x w b = modulation x' w' b' := by
  obtain rfl : x = x' := funext hx
  obtain rfl : w = w' := funext hw
  obtain rfl : b = b' := hb
  rfl

/-- Equal rows and weights give equal merged rows. -/
theorem merge_congr {x x' g g' sc sc' sh sh' gt gt' : Fin 1024 → EReal} {ya ya' yb yb' yc yc' : Fin 512 → EReal}
    {wg wg' : Fin 1024 → Fin 3072 → EReal} {bg bg' : Fin 3072 → EReal} {wa wa' wb wb' wc wc' : Fin 512 → Fin 1024 → EReal}
    {wo wo' : Fin 1024 → Fin 1024 → EReal} (hx : ∀ k, x k = x' k) (hg : ∀ k, g k = g' k) (hsc : ∀ k, sc k = sc' k)
    (hsh : ∀ k, sh k = sh' k) (hgt : ∀ k, gt k = gt' k) (hya : ∀ d, ya d = ya' d) (hyb : ∀ d, yb d = yb' d)
    (hyc : ∀ d, yc d = yc' d) (hwg : ∀ k l, wg k l = wg' k l) (hbg : ∀ l, bg l = bg' l) (hwa : ∀ d k, wa d k = wa' d k)
    (hwb : ∀ d k, wb d k = wb' d k) (hwc : ∀ d k, wc d k = wc' d k) (hwo : ∀ k j, wo k j = wo' k j) (j : Fin 1024) :
    merge x g sc sh gt ya yb yc wg bg wa wb wc wo j = merge x' g' sc' sh' gt' ya' yb' yc' wg' bg' wa' wb' wc' wo' j := by
  obtain rfl : x = x' := funext hx
  obtain rfl : g = g' := funext hg
  obtain rfl : sc = sc' := funext hsc
  obtain rfl : sh = sh' := funext hsh
  obtain rfl : gt = gt' := funext hgt
  obtain rfl : ya = ya' := funext hya
  obtain rfl : yb = yb' := funext hyb
  obtain rfl : yc = yc' := funext hyc
  obtain rfl : wg = wg' := funext fun k => funext (hwg k)
  obtain rfl : bg = bg' := funext hbg
  obtain rfl : wa = wa' := funext fun k => funext (hwa k)
  obtain rfl : wb = wb' := funext fun k => funext (hwb k)
  obtain rfl : wc = wc' := funext fun k => funext (hwc k)
  obtain rfl : wo = wo' := funext fun k => funext (hwo k)
  rfl

end Layer

end
-- ==== Proof.FfnReference.lean ====
/-
  What the reference of the feed-forward block computes, read at one element of its result: the latent rows with their batch
  item's modulation, the context rows with the ninth one.
-/
module

public import proofs.«01_k».proof.Proof.Layer
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.FfnRefIdeal.Value

open Cert.FfnRefIdeal Cert.FfnRefIdeal.Gen Layer Idealize.ShloMosaic Idealize.ShloMosaic.TcCoe Idealize.SL.Sem

variable (X : FVec Ideal S8x2304x1024 .f32) (M : FVec Ideal S16x6x1024 .f32) (G : FVec Ideal S1024 .f32)
  (U : FVec Ideal S1024x5632 .f32) (W : FVec Ideal S2816x1024 .f32)

/-- The modulated norm of the latent rows. -/
def normL : FVec Ideal S8x2048x1024 .f32 :=
  (addf (mulf (mulf (mulf (extractStridedSlice S8x2048x1024 ![0, 0, 0] X slices_S8x2304x1024_S8x2048x1024_0_0_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 0, 0] X slices_S8x2304x1024_S8x2048x1024_0_0_0) (extractStridedSlice S8x2048x1024 ![0, 0, 0] X slices_S8x2304x1024_S8x2048x1024_0_0_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 4, 0] (extractStridedSlice S8x6x1024 ![0, 0, 0] M slices_S16x6x1024_S8x6x1024_0_0_0) slices_S8x6x1024_S8x1x1024_0_4_0)))) (broadcastInDim S8x2048x1024 ![0, 1, 2] bcast_S8x1x1024_S8x2048x1024_0_1_2 (extractStridedSlice S8x1x1024 ![0, 3, 0] (extractStridedSlice S8x6x1024 ![0, 0, 0] M slices_S16x6x1024_S8x6x1024_0_0_0) slices_S8x6x1024_S8x1x1024_0_3_0)))

/-- Gate and up projection of the latent rows. -/
def wideL (N : FVec Ideal S8x2048x1024 .f32) : FVec Ideal S8x2048x5632 .f32 :=
  (Host.dotGeneral dot_S8x2048x1024_S1024x5632_S8x2048x5632_2_0_01_1_n_n none N U)

/-- The activations of the latent rows. -/
def actL (H : FVec Ideal S8x2048x5632 .f32) : FVec Ideal S8x2048x2816 .f32 :=
  (mulf (mulf (extractStridedSlice S8x2048x2816 ![0, 0, 0] H slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] H slices_S8x2048x5632_S8x2048x2816_0_0_0)))))) (extractStridedSlice S8x2048x2816 ![0, 0, 2816] H slices_S8x2048x5632_S8x2048x2816_0_0_2816))

/-- The latent rows of the result. -/
def rowsL (P : FVec Ideal S8x2048x2816 .f32) : FVec Ideal S8x2048x1024 .f32 :=
  (addf (extractStridedSlice S8x2048x1024 ![0, 0, 0] X slices_S8x2304x1024_S8x2048x1024_0_0_0) (mulf (broadcastInDim S8x2048x1024 ![0, 1, 2] bcast_S8x1x1024_S8x2048x1024_0_1_2 (extractStridedSlice S8x1x1024 ![0, 5, 0] (extractStridedSlice S8x6x1024 ![0, 0, 0] M slices_S16x6x1024_S8x6x1024_0_0_0) slices_S8x6x1024_S8x1x1024_0_5_0)) (Host.dotGeneral dot_S8x2048x2816_S2816x1024_S8x2048x1024_2_0_01_1_n_n none P W)))

/-- The modulated norm of the context rows. -/
def normC : FVec Ideal S8x256x1024 .f32 :=
  (addf (mulf (mulf (mulf (extractStridedSlice S8x256x1024 ![0, 2048, 0] X slices_S8x2304x1024_S8x256x1024_0_2048_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 2048, 0] X slices_S8x2304x1024_S8x256x1024_0_2048_0) (extractStridedSlice S8x256x1024 ![0, 2048, 0] X slices_S8x2304x1024_S8x256x1024_0_2048_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S1x1x1024_S8x256x1024_0_1_2 (addf (broadcastInDim S1x1x1024 ![] bcast_S_S1x1x1024 (constant S_ .f32 0x3F800000#32)) (extractStridedSlice S1x1x1024 ![0, 4, 0] (extractStridedSlice S1x6x1024 ![8, 0, 0] M slices_S16x6x1024_S1x6x1024_8_0_0) slices_S1x6x1024_S1x1x1024_0_4_0)))) (broadcastInDim S8x256x1024 ![0, 1, 2] bcast_S1x1x1024_S8x256x1024_0_1_2 (extractStridedSlice S1x1x1024 ![0, 3, 0] (extractStridedSlice S1x6x1024 ![8, 0, 0] M slices_S16x6x1024_S1x6x1024_8_0_0) slices_S1x6x1024_S1x1x1024_0_3_0)))

/-- Gate and up projection of the context rows. -/
def wideC (N : FVec Ideal S8x256x1024 .f32) : FVec Ideal S8x256x5632 .f32 :=
  (Host.dotGeneral dot_S8x256x1024_S1024x5632_S8x256x5632_2_0_01_1_n_n none N U)

/-- The activations of the context rows. -/
def actC (H : FVec Ideal S8x256x5632 .f32) : FVec Ideal S8x256x2816 .f32 :=
  (mulf (mulf (extractStridedSlice S8x256x2816 ![0, 0, 0] H slices_S8x256x5632_S8x256x2816_0_0_0) (Host.divf (broadcastInDim S8x256x2816 ![] bcast_S_S8x256x2816 (constant S_ .f32 0x3F800000#32)) (addf (broadcastInDim S8x256x2816 ![] bcast_S_S8x256x2816 (constant S_ .f32 0x3F800000#32)) (Host.exp (Host.negf (extractStridedSlice S8x256x2816 ![0, 0, 0] H slices_S8x256x5632_S8x256x2816_0_0_0)))))) (extractStridedSlice S8x256x2816 ![0, 0, 2816] H slices_S8x256x5632_S8x256x2816_0_0_2816))

/-- The context rows of the result. -/
def rowsC (P : FVec Ideal S8x256x2816 .f32) : FVec Ideal S8x256x1024 .f32 :=
  (addf (extractStridedSlice S8x256x1024 ![0, 2048, 0] X slices_S8x2304x1024_S8x256x1024_0_2048_0) (mulf (broadcastInDim S8x256x1024 ![0, 1, 2] bcast_S1x1x1024_S8x256x1024_0_1_2 (extractStridedSlice S1x1x1024 ![0, 5, 0] (extractStridedSlice S1x6x1024 ![8, 0, 0] M slices_S16x6x1024_S1x6x1024_8_0_0) slices_S1x6x1024_S1x1x1024_0_5_0)) (Host.dotGeneral dot_S8x256x2816_S2816x1024_S8x256x1024_2_0_01_1_n_n none P W)))

/-- The latent rows followed by the context rows. -/
def join (A : FVec Ideal S8x2048x1024 .f32) (B : FVec Ideal S8x256x1024 .f32) : FVec Ideal S8x2304x1024 .f32 :=
  concatenate S8x2304x1024 1 [⟨S8x2048x1024, A⟩, ⟨S8x256x1024, B⟩] concatenates_S8x2048x1024_S8x256x1024_S8x2304x1024_d1

/-- The reference's result, over its arguments. -/
def res : FVec Ideal S8x2304x1024 .f32 :=
  join (rowsL X M W (actL (wideL U (normL X M G)))) (rowsC X M W (actC (wideC U (normC X M G))))

/-- The composed term of the reference's run is `res` of the arguments. -/
theorem res_main (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem normL_at (b : Fin 8) (i : Fin 2048) (k : Fin 1024) :
    normL X M G (ix3 b i k) = norm (fun k => X (ix3 b ⟨i.val, by omega⟩ k)) (fun k => G (ix1 k)) (fun k => M (ix3 ⟨b.val, by omega⟩ 4 k))
      (fun k => M (ix3 ⟨b.val, by omega⟩ 3 k)) k := by
  pointwise [normL]
  rfl

theorem wideL_at (N : FVec Ideal S8x2048x1024 .f32) (b : Fin 8) (i : Fin 2048) (h : Fin 5632) :
    wideL U N (ix3 b i h) = ∑ k : Fin 1024, N (ix3 b i k) * U (ix2 k h) := by
  pointwise [wideL]

theorem actL_at (H : FVec Ideal S8x2048x5632 .f32) (b : Fin 8) (i : Fin 2048) (h : Fin 2816) :
    actL H (ix3 b i h) = act (H (ix3 b i ⟨h.val, by omega⟩)) (H (ix3 b i ⟨2816 + h.val, by omega⟩)) := by
  pointwise [actL, act]
  rfl

theorem rowsL_at (P : FVec Ideal S8x2048x2816 .f32) (b : Fin 8) (i : Fin 2048) (j : Fin 1024) :
    rowsL X M W P (ix3 b i j) = X (ix3 b ⟨i.val, by omega⟩ j) + M (ix3 ⟨b.val, by omega⟩ 5 j) * ∑ h : Fin 2816, P (ix3 b i h) * W (ix2 h j) := by
  pointwise [rowsL]

theorem normC_at (b : Fin 8) (i : Fin 256) (k : Fin 1024) :
    normC X M G (ix3 b i k) = norm (fun k => X (ix3 b ⟨2048 + i.val, by omega⟩ k)) (fun k => G (ix1 k)) (fun k => M (ix3 8 4 k))
      (fun k => M (ix3 8 3 k)) k := by
  pointwise [normC]
  rfl

theorem wideC_at (N : FVec Ideal S8x256x1024 .f32) (b : Fin 8) (i : Fin 256) (h : Fin 5632) :
    wideC U N (ix3 b i h) = ∑ k : Fin 1024, N (ix3 b i k) * U (ix2 k h) := by
  pointwise [wideC]

theorem actC_at (H : FVec Ideal S8x256x5632 .f32) (b : Fin 8) (i : Fin 256) (h : Fin 2816) :
    actC H (ix3 b i h) = act (H (ix3 b i ⟨h.val, by omega⟩)) (H (ix3 b i ⟨2816 + h.val, by omega⟩)) := by
  pointwise [actC, act]
  rfl

theorem rowsC_at (P : FVec Ideal S8x256x2816 .f32) (b : Fin 8) (i : Fin 256) (j : Fin 1024) :
    rowsC X M W P (ix3 b i j) = X (ix3 b ⟨2048 + i.val, by omega⟩ j) + M (ix3 8 5 j) * ∑ h : Fin 2816, P (ix3 b i h) * W (ix2 h j) := by
  pointwise [rowsC]

theorem join_latent (A : FVec Ideal S8x2048x1024 .f32) (B : FVec Ideal S8x256x1024 .f32) (b : Fin 8) (i : Fin 2048) (j : Fin 1024) :
    join A B (ix3 b ⟨i.val, by omega⟩ j) = A (ix3 b i j) := by
  pointwise [join]

theorem join_context (A : FVec Ideal S8x2048x1024 .f32) (B : FVec Ideal S8x256x1024 .f32) (b : Fin 8) (i : Fin 256) (j : Fin 1024) :
    join A B (ix3 b ⟨2048 + i.val, by omega⟩ j) = B (ix3 b i j) := by
  pointwise [join]

/-- A latent row of the result. -/
theorem res_latent (b : Fin 8) (i : Fin 2048) (j : Fin 1024) :
    res X M G U W (ix3 b ⟨i.val, by omega⟩ j)
      = feed (fun k => X (ix3 b ⟨i.val, by omega⟩ k)) (fun k => G (ix1 k)) (fun k => M (ix3 ⟨b.val, by omega⟩ 4 k)) (fun k => M (ix3 ⟨b.val, by omega⟩ 3 k))
          (fun k => M (ix3 ⟨b.val, by omega⟩ 5 k)) (fun k h => U (ix2 k h)) (fun h j => W (ix2 h j)) j := by
  unfold res
  rw [join_latent, rowsL_at]
  simp only [actL_at, wideL_at, normL_at]
  rfl

/-- A context row of the result. -/
theorem res_context (b : Fin 8) (i : Fin 256) (j : Fin 1024) :
    res X M G U W (ix3 b ⟨2048 + i.val, by omega⟩ j)
      = feed (fun k => X (ix3 b ⟨2048 + i.val, by omega⟩ k)) (fun k => G (ix1 k)) (fun k => M (ix3 8 4 k)) (fun k => M (ix3 8 3 k))
          (fun k => M (ix3 8 5 k)) (fun k h => U (ix2 k h)) (fun h j => W (ix2 h j)) j := by
  unfold res
  rw [join_context, rowsC_at]
  simp only [actC_at, wideC_at, normC_at]
  rfl

end Cert.FfnRefIdeal.Value

end
-- ==== Proof.FfnArray.lean ====
/-
  What the feed-forward call leaves in its result array: the reference's result, over the call's own arguments.
-/
module

public import proofs.«01_k».proof.Proof.FfnReference
public import proofs.«01_k».proof.Proof.Gen.FfnIdeal.Value
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Array

open Cert.FfnIdeal Cert.FfnIdeal.Gen Layer Idealize.ShloMosaic Idealize.ShloMosaic.TcCoe Idealize.SL.Sem

/-- One element of the block of results, from the five blocks read. -/
theorem block_at (x : FVec Ideal S1x256x1024 .f32) (s : FVec Ideal S1x6x1024 .f32) (g : FVec Ideal S1x1024 .f32)
    (u : FVec Ideal S1024x5632 .bf16) (w : FVec Ideal S2816x1024 .bf16) (r : Fin 256) (j : Fin 1024) :
    k0_pay1 (F := Ideal) (k0_pay2 x) (k0_pay4 s) (k0_pay5 x s g u w) (ix3 0 r j)
      = feed (fun k => x (ix3 0 r k)) (fun k => g (ix2 0 k)) (fun k => s (ix3 0 4 k)) (fun k => s (ix3 0 3 k))
          (fun k => s (ix3 0 5 k)) (fun k h => u (ix2 k h)) (fun h j => w (ix2 h j)) j := by
  pointwise [k0_pay1, k0_pay2, k0_pay3, k0_pay4, k0_pay5, feed, Layer.norm, act]

variable (m : (ℓ : Loc nD τ sig) → Buf (Elt Ideal) ℓ)

/-- The windows' block indices: batch item `t / 9` and tile `t % 9` of the rows, the batch item's modulation for a latent tile and
    the ninth for the context tile, the weights whole. -/
theorem idx : ∀ t : Fin cfg0.N, win0_0.index t = ![t.val / 9, t.val % 9, 0]
    ∧ win0_1.index t = ![if t.val % 9 < 8 then t.val / 9 else 8, 0, 0] ∧ win0_2.index t = ![0, 0] ∧ win0_3.index t = ![0, 0]
    ∧ win0_4.index t = ![0, 0] ∧ win0_5.index t = ![t.val / 9, t.val % 9, 0] :=
  (by decide +kernel : ∀ t : Fin grid0.N, _)

theorem row_block (c : Dev nD) (t : Fin cfg0.N) (b : Fin 8) (i : Fin 2304) (r : Fin 256) (k : Fin 1024)
    (hb : b.val = t.val / 9) (hi : i.val = 256 * (t.val % 9) + r.val) :
    (show FVec Ideal S1x256x1024 .f32 from iblk m c 0 t) (ix3 0 r k)
      = (show FVec Ideal S8x2304x1024 .f32 from m ((c : Thread nD τ).loc main_arg0)) (ix3 b i k) := by
  blk_point [iblk, V, idx t]

theorem mod_block (c : Dev nD) (t : Fin cfg0.N) (b : Fin 16) (e : Fin 6) (k : Fin 1024)
    (hb : b.val = if t.val % 9 < 8 then t.val / 9 else 8) :
    (show FVec Ideal S1x6x1024 .f32 from iblk m c 1 t) (ix3 0 e k)
      = (show FVec Ideal S16x6x1024 .f32 from m ((c : Thread nD τ).loc main_arg1)) (ix3 b e k) := by
  blk_point [iblk, V, idx t]

theorem gain_block (c : Dev nD) (t : Fin cfg0.N) (k : Fin 1024) :
    (show FVec Ideal S1x1024 .f32 from iblk m c 2 t) (ix2 0 k)
      = (show FVec Ideal S1024 .f32 from m ((c : Thread nD τ).loc main_arg2)) (ix1 k) := by
  blk_point [iblk, V, idx t]

theorem wide_block (c : Dev nD) (t : Fin cfg0.N) (k : Fin 1024) (h : Fin 5632) :
    (show FVec Ideal S1024x5632 .bf16 from iblk m c 3 t) (ix2 k h)
      = (show FVec Ideal S1024x5632 .f32 from m ((c : Thread nD τ).loc main_arg3)) (ix2 k h) := by
  blk_point [iblk, V, idx t]

theorem out_block (c : Dev nD) (t : Fin cfg0.N) (h : Fin 2816) (k : Fin 1024) :
    (show FVec Ideal S2816x1024 .bf16 from iblk m c 4 t) (ix2 h k)
      = (show FVec Ideal S2816x1024 .f32 from m ((c : Thread nD τ).loc main_arg4)) (ix2 h k) := by
  blk_point [iblk, V, idx t]

/-- One element of the block of results, from the argument arrays. -/
theorem point (c : Dev nD) (t : Fin cfg0.N) (b : Fin 8) (b' : Fin 16) (i : Fin 2304) (r : Fin 256) (j : Fin 1024)
    (hb : b.val = t.val / 9) (hb' : b'.val = if t.val % 9 < 8 then t.val / 9 else 8) (hi : i.val = 256 * (t.val % 9) + r.val) :
    k0_pay1 (F := Ideal) (k0_pay2 (iblk m c 0 t)) (k0_pay4 (iblk m c 1 t)) (k0_pay5 (iblk m c 0 t) (iblk m c 1 t) (iblk m c 2 t) (iblk m c 3 t) (iblk m c 4 t)) (ix3 0 r j)
      = feed (fun k => (show FVec Ideal S8x2304x1024 .f32 from m ((c : Thread nD τ).loc main_arg0)) (ix3 b i k))
          (fun k => (show FVec Ideal S1024 .f32 from m ((c : Thread nD τ).loc main_arg2)) (ix1 k))
          (fun k => (show FVec Ideal S16x6x1024 .f32 from m ((c : Thread nD τ).loc main_arg1)) (ix3 b' 4 k))
          (fun k => (show FVec Ideal S16x6x1024 .f32 from m ((c : Thread nD τ).loc main_arg1)) (ix3 b' 3 k))
          (fun k => (show FVec Ideal S16x6x1024 .f32 from m ((c : Thread nD τ).loc main_arg1)) (ix3 b' 5 k))
          (fun k h => (show FVec Ideal S1024x5632 .f32 from m ((c : Thread nD τ).loc main_arg3)) (ix2 k h))
          (fun h k => (show FVec Ideal S2816x1024 .f32 from m ((c : Thread nD τ).loc main_arg4)) (ix2 h k)) j := by
  refine (block_at (iblk m c 0 t) (iblk m c 1 t) (iblk m c 2 t) (iblk m c 3 t) (iblk m c 4 t) r j).trans ?_
  exact feed_congr (fun k => row_block m c t b i r k hb hi) (fun k => gain_block m c t k) (fun k => mod_block m c t b' 4 k hb')
    (fun k => mod_block m c t b' 3 k hb') (fun k => mod_block m c t b' 5 k hb') (fun k h => wide_block m c t k h)
    (fun h k => out_block m c t h k) j

/-- THE RESULT of the call. -/
theorem final (c : Dev nD) :
    (dats m 0 c).arrAt 5 (cfgs 0).N
      = Cert.FfnRefIdeal.Value.res (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  frame_out
  have hN : t.val < 72 := t.isLt
  have h0 : (y 0).val < 1 := (y 0).isLt
  have h1 : (y 1).val < 256 := (y 1).isLt
  have h2 : (y 2).val < 1024 := (y 2).isLt
  have e : (win0_5.blk t).view.emb y = (ix3 (⟨t.val / 9, by omega⟩ : Fin 8) (⟨256 * (t.val % 9) + (y 1).val, by omega⟩ : Fin 2304)
      (⟨(y 2).val, h2⟩ : Fin 1024) : S8x2304x1024.Idx) := by
    blk_ext [idx t]
  have ey : y = (ix3 (0 : Fin 1) (⟨(y 1).val, h1⟩ : Fin 256) (⟨(y 2).val, h2⟩ : Fin 1024) : S1x256x1024.Idx) := by
    blk_ext
  rw [e]
  refine (congrArg _ ey).trans ?_
  rcases Nat.lt_or_ge (t.val % 9) 8 with ht | ht
  · refine (point m c t ⟨t.val / 9, by omega⟩ ⟨t.val / 9, by omega⟩ ⟨256 * (t.val % 9) + (y 1).val, by omega⟩ _ _ rfl (by rw [if_pos ht]) rfl).trans ?_
    exact (Cert.FfnRefIdeal.Value.res_latent _ _ _ _ _ ⟨t.val / 9, by omega⟩ ⟨256 * (t.val % 9) + (y 1).val, by omega⟩ ⟨(y 2).val, h2⟩).symm
  · have er : (⟨256 * (t.val % 9) + (y 1).val, by omega⟩ : Fin 2304) = ⟨2048 + (⟨(y 1).val, h1⟩ : Fin 256).val, by dsimp only; omega⟩ :=
      Fin.ext (by dsimp only; omega)
    refine (point m c t ⟨t.val / 9, by omega⟩ 8 ⟨256 * (t.val % 9) + (y 1).val, by omega⟩ _ _ rfl (by rw [if_neg (by omega)]; rfl) rfl).trans ?_
    rw [er]
    exact (Cert.FfnRefIdeal.Value.res_context _ _ _ _ _ ⟨t.val / 9, by omega⟩ ⟨(y 1).val, h1⟩ ⟨(y 2).val, h2⟩).symm

end Cert.FfnIdeal.Array

end
-- ==== Proof.FfnClaim.lean ====
/-
  The claims about the feed-forward block: the three frames, that the idealization changes nothing, and that kernel and
  reference end with one result.
-/
module

public import proofs.«01_k».proof.Defs
public import Idealize.ShloMosaic.Lib.Claim
public import proofs.«01_k».proof.Proof.FfnArray
public import proofs.«01_k».proof.Proof.Gen.Ffn.Frame
public import proofs.«01_k».proof.Proof.Gen.FfnIdeal.Frame
public import proofs.«01_k».proof.Proof.Gen.FfnRefIdeal.Run

@[expose] public section

set_option maxRecDepth 16384

noncomputable section

namespace Cert.FfnClaim

open Idealize.ShloMosaic Idealize.SL.Sem

theorem frame : Cert.quiescent_Ffn := fun m ρ _ => Cert.Ffn.Gen.frame m ρ

theorem frame_ideal : Cert.quiescent_FfnIdeal := fun m ρ _ => Cert.FfnIdeal.Gen.frame m ρ

theorem frame_reference : Cert.quiescent_FfnRefIdeal := by
  intro m g _
  exact (θ_run _ _ _).mono (fun r h => ⟨fun c => (h c).2, sem_eq_zero_of_no_sems (by decide) _⟩) (Cert.FfnRefIdeal.Value.run m g)

theorem preserves : Cert.preserves_Ffn_FfnIdeal := trivial

/-- The kernel and the reference end with one result. -/
theorem algebraic : Cert.algebraic_FfnIdeal_FfnRefIdeal := by
  pair_intro
  · run_from Cert.FfnIdeal.Gen.run_main m g
  · run_from Cert.FfnRefIdeal.Value.run m' g'
    refine Eq.trans ?_ (Cert.FfnIdeal.Array.final m c).symm
    refine (Cert.FfnRefIdeal.Value.res_main m' c).trans ?_
    rw [(hagree c).1, (hagree c).2.1, (hagree c).2.2.1, (hagree c).2.2.2.1, (hagree c).2.2.2.2]

end Cert.FfnClaim

end
-- ==== Proof.MergeReference.lean ====
/-
  What the reference of the merge computes, read at one element of its result: the latent rows with their batch item's
  modulation, the context rows with the ninth one.
-/
module

public import proofs.«01_k».proof.Proof.Layer
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeRefIdeal.Value

open Cert.MergeRefIdeal Cert.MergeRefIdeal.Gen Layer Idealize.ShloMosaic Idealize.ShloMosaic.TcCoe Idealize.SL.Sem

variable (X : FVec Ideal S8x2304x1024 .f32) (M : FVec Ideal S16x6x1024 .f32) (G : FVec Ideal S1024 .f32)
  (YA YB YC : FVec Ideal S8x2304x512 .bf16) (WG : FVec Ideal S1024x3072 .f32) (BG : FVec Ideal S3072 .f32)
  (WA WB WC : FVec Ideal S512x1024 .f32) (WO : FVec Ideal S1024x1024 .f32)

/-- The modulated norm of the latent rows. -/
def normL : FVec Ideal S8x2048x1024 .f32 :=
  (addf (mulf (mulf (mulf (extractStridedSlice S8x2048x1024 ![0, 0, 0] X slices_S8x2304x1024_S8x2048x1024_0_0_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 0, 0] X slices_S8x2304x1024_S8x2048x1024_0_0_0) (extractStridedSlice S8x2048x1024 ![0, 0, 0] X slices_S8x2304x1024_S8x2048x1024_0_0_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 1, 0] (extractStridedSlice S8x6x1024 ![0, 0, 0] M slices_S16x6x1024_S8x6x1024_0_0_0) slices_S8x6x1024_S8x1x1024_0_1_0)))) (broadcastInDim S8x2048x1024 ![0, 1, 2] bcast_S8x1x1024_S8x2048x1024_0_1_2 (extractStridedSlice S8x1x1024 ![0, 0, 0] (extractStridedSlice S8x6x1024 ![0, 0, 0] M slices_S16x6x1024_S8x6x1024_0_0_0) slices_S8x6x1024_S8x1x1024_0_0_0)))

/-- The three gates of the latent rows. -/
def gatesL (N : FVec Ideal S8x2048x1024 .f32) : FVec Ideal S8x2048x3072 .f32 :=
  (Host.divf (broadcastInDim S8x2048x3072 ![] bcast_S_S8x2048x3072 (constant S_ .f32 0x3F800000#32)) (addf (broadcastInDim S8x2048x3072 ![] bcast_S_S8x2048x3072 (constant S_ .f32 0x3F800000#32)) (Host.exp (Host.negf (addf (Host.dotGeneral dot_S8x2048x1024_S1024x3072_S8x2048x3072_2_0_01_1_n_n none N WG) (broadcastInDim S8x2048x3072 ![0, 1, 2] bcast_S1x1x3072_S8x2048x3072_0_1_2 (broadcastInDim S1x1x3072 ![2] bcast_S3072_S1x1x3072_2 BG)))))))

/-- The gated sum of the latent rows' branches. -/
def mixL (S : FVec Ideal S8x2048x3072 .f32) : FVec Ideal S8x2048x1024 .f32 :=
  (addf (addf (mulf (shapeCast _ (extractStridedSlice S8x2048x1x1024 ![0, 0, 0, 0] (shapeCast _ S shapeCasts_S8x2048x3072_S8x2048x3x1024) slices_S8x2048x3x1024_S8x2048x1x1024_0_0_0_0) shapeCasts_S8x2048x1x1024_S8x2048x1024) (Host.dotGeneral dot_S8x2048x512_S512x1024_S8x2048x1024_2_0_01_1_n_n none (extractStridedSlice S8x2048x512 ![0, 0, 0] (extf .f32 YA bitsLt_bf16_f32) slices_S8x2304x512_S8x2048x512_0_0_0) WA)) (mulf (shapeCast _ (extractStridedSlice S8x2048x1x1024 ![0, 0, 1, 0] (shapeCast _ S shapeCasts_S8x2048x3072_S8x2048x3x1024) slices_S8x2048x3x1024_S8x2048x1x1024_0_0_1_0) shapeCasts_S8x2048x1x1024_S8x2048x1024) (Host.dotGeneral dot_S8x2048x512_S512x1024_S8x2048x1024_2_0_01_1_n_n none (extractStridedSlice S8x2048x512 ![0, 0, 0] (extf .f32 YB bitsLt_bf16_f32) slices_S8x2304x512_S8x2048x512_0_0_0) WB))) (mulf (shapeCast _ (extractStridedSlice S8x2048x1x1024 ![0, 0, 2, 0] (shapeCast _ S shapeCasts_S8x2048x3072_S8x2048x3x1024) slices_S8x2048x3x1024_S8x2048x1x1024_0_0_2_0) shapeCasts_S8x2048x1x1024_S8x2048x1024) (Host.dotGeneral dot_S8x2048x512_S512x1024_S8x2048x1024_2_0_01_1_n_n none (extractStridedSlice S8x2048x512 ![0, 0, 0] (extf .f32 YC bitsLt_bf16_f32) slices_S8x2304x512_S8x2048x512_0_0_0) WC)))

/-- The latent rows of the result. -/
def rowsL (P : FVec Ideal S8x2048x1024 .f32) : FVec Ideal S8x2048x1024 .f32 :=
  (addf (extractStridedSlice S8x2048x1024 ![0, 0, 0] X slices_S8x2304x1024_S8x2048x1024_0_0_0) (mulf (broadcastInDim S8x2048x1024 ![0, 1, 2] bcast_S8x1x1024_S8x2048x1024_0_1_2 (extractStridedSlice S8x1x1024 ![0, 2, 0] (extractStridedSlice S8x6x1024 ![0, 0, 0] M slices_S16x6x1024_S8x6x1024_0_0_0) slices_S8x6x1024_S8x1x1024_0_2_0)) (Host.dotGeneral dot_S8x2048x1024_S1024x1024_S8x2048x1024_2_0_01_1_n_n none P WO)))

/-- The modulated norm of the context rows. -/
def normC : FVec Ideal S8x256x1024 .f32 :=
  (addf (mulf (mulf (mulf (extractStridedSlice S8x256x1024 ![0, 2048, 0] X slices_S8x2304x1024_S8x256x1024_0_2048_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 2048, 0] X slices_S8x2304x1024_S8x256x1024_0_2048_0) (extractStridedSlice S8x256x1024 ![0, 2048, 0] X slices_S8x2304x1024_S8x256x1024_0_2048_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S1x1x1024_S8x256x1024_0_1_2 (addf (broadcastInDim S1x1x1024 ![] bcast_S_S1x1x1024 (constant S_ .f32 0x3F800000#32)) (extractStridedSlice S1x1x1024 ![0, 1, 0] (extractStridedSlice S1x6x1024 ![8, 0, 0] M slices_S16x6x1024_S1x6x1024_8_0_0) slices_S1x6x1024_S1x1x1024_0_1_0)))) (broadcastInDim S8x256x1024 ![0, 1, 2] bcast_S1x1x1024_S8x256x1024_0_1_2 (extractStridedSlice S1x1x1024 ![0, 0, 0] (extractStridedSlice S1x6x1024 ![8, 0, 0] M slices_S16x6x1024_S1x6x1024_8_0_0) slices_S1x6x1024_S1x1x1024_0_0_0)))

/-- The three gates of the context rows. -/
def gatesC (N : FVec Ideal S8x256x1024 .f32) : FVec Ideal S8x256x3072 .f32 :=
  (Host.divf (broadcastInDim S8x256x3072 ![] bcast_S_S8x256x3072 (constant S_ .f32 0x3F800000#32)) (addf (broadcastInDim S8x256x3072 ![] bcast_S_S8x256x3072 (constant S_ .f32 0x3F800000#32)) (Host.exp (Host.negf (addf (Host.dotGeneral dot_S8x256x1024_S1024x3072_S8x256x3072_2_0_01_1_n_n none N WG) (broadcastInDim S8x256x3072 ![0, 1, 2] bcast_S1x1x3072_S8x256x3072_0_1_2 (broadcastInDim S1x1x3072 ![2] bcast_S3072_S1x1x3072_2 BG)))))))

/-- The gated sum of the context rows' branches. -/
def mixC (S : FVec Ideal S8x256x3072 .f32) : FVec Ideal S8x256x1024 .f32 :=
  (addf (addf (mulf (shapeCast _ (extractStridedSlice S8x256x1x1024 ![0, 0, 0, 0] (shapeCast _ S shapeCasts_S8x256x3072_S8x256x3x1024) slices_S8x256x3x1024_S8x256x1x1024_0_0_0_0) shapeCasts_S8x256x1x1024_S8x256x1024) (Host.dotGeneral dot_S8x256x512_S512x1024_S8x256x1024_2_0_01_1_n_n none (extractStridedSlice S8x256x512 ![0, 2048, 0] (extf .f32 YA bitsLt_bf16_f32) slices_S8x2304x512_S8x256x512_0_2048_0) WA)) (mulf (shapeCast _ (extractStridedSlice S8x256x1x1024 ![0, 0, 1, 0] (shapeCast _ S shapeCasts_S8x256x3072_S8x256x3x1024) slices_S8x256x3x1024_S8x256x1x1024_0_0_1_0) shapeCasts_S8x256x1x1024_S8x256x1024) (Host.dotGeneral dot_S8x256x512_S512x1024_S8x256x1024_2_0_01_1_n_n none (extractStridedSlice S8x256x512 ![0, 2048, 0] (extf .f32 YB bitsLt_bf16_f32) slices_S8x2304x512_S8x256x512_0_2048_0) WB))) (mulf (shapeCast _ (extractStridedSlice S8x256x1x1024 ![0, 0, 2, 0] (shapeCast _ S shapeCasts_S8x256x3072_S8x256x3x1024) slices_S8x256x3x1024_S8x256x1x1024_0_0_2_0) shapeCasts_S8x256x1x1024_S8x256x1024) (Host.dotGeneral dot_S8x256x512_S512x1024_S8x256x1024_2_0_01_1_n_n none (extractStridedSlice S8x256x512 ![0, 2048, 0] (extf .f32 YC bitsLt_bf16_f32) slices_S8x2304x512_S8x256x512_0_2048_0) WC)))

/-- The context rows of the result. -/
def rowsC (P : FVec Ideal S8x256x1024 .f32) : FVec Ideal S8x256x1024 .f32 :=
  (addf (extractStridedSlice S8x256x1024 ![0, 2048, 0] X slices_S8x2304x1024_S8x256x1024_0_2048_0) (mulf (broadcastInDim S8x256x1024 ![0, 1, 2] bcast_S1x1x1024_S8x256x1024_0_1_2 (extractStridedSlice S1x1x1024 ![0, 2, 0] (extractStridedSlice S1x6x1024 ![8, 0, 0] M slices_S16x6x1024_S1x6x1024_8_0_0) slices_S1x6x1024_S1x1x1024_0_2_0)) (Host.dotGeneral dot_S8x256x1024_S1024x1024_S8x256x1024_2_0_01_1_n_n none P WO)))

/-- The latent rows followed by the context rows. -/
def join (A : FVec Ideal S8x2048x1024 .f32) (B : FVec Ideal S8x256x1024 .f32) : FVec Ideal S8x2304x1024 .f32 :=
  concatenate S8x2304x1024 1 [⟨S8x2048x1024, A⟩, ⟨S8x256x1024, B⟩] concatenates_S8x2048x1024_S8x256x1024_S8x2304x1024_d1

/-- The reference's result, over its arguments. -/
def res : FVec Ideal S8x2304x1024 .f32 :=
  join (rowsL X M WO (mixL YA YB YC WA WB WC (gatesL WG BG (normL X M G))))
    (rowsC X M WO (mixC YA YB YC WA WB WC (gatesC WG BG (normC X M G))))

/-- The composed term of the reference's run is `res` of the arguments. -/
theorem res_main (m : (ℓ : Loc nD τ sig) → Buf (Elt Ideal) ℓ) (c : Dev nD) :
    res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

theorem normL_at (b : Fin 8) (i : Fin 2048) (k : Fin 1024) :
    normL X M G (ix3 b i k) = norm (fun k => X (ix3 b ⟨i.val, by omega⟩ k)) (fun k => G (ix1 k)) (fun k => M (ix3 ⟨b.val, by omega⟩ 1 k))
      (fun k => M (ix3 ⟨b.val, by omega⟩ 0 k)) k := by
  pointwise [normL]
  rfl

theorem gatesL_at (N : FVec Ideal S8x2048x1024 .f32) (b : Fin 8) (i : Fin 2048) (l : Fin 3072) :
    gatesL WG BG N (ix3 b i l) = Ideal.logistic ((∑ k : Fin 1024, N (ix3 b i k) * WG (ix2 k l)) + BG (ix1 l)) := by
  pointwise [gatesL]
  rfl

theorem mixL_at (S : FVec Ideal S8x2048x3072 .f32) (b : Fin 8) (i : Fin 2048) (k : Fin 1024) :
    mixL YA YB YC WA WB WC S (ix3 b i k)
      = S (ix3 b i ⟨k.val, by omega⟩) * (∑ d : Fin 512, YA (ix3 b ⟨i.val, by omega⟩ d) * WA (ix2 d k))
        + S (ix3 b i ⟨1024 + k.val, by omega⟩) * (∑ d : Fin 512, YB (ix3 b ⟨i.val, by omega⟩ d) * WB (ix2 d k))
        + S (ix3 b i ⟨2048 + k.val, by omega⟩) * (∑ d : Fin 512, YC (ix3 b ⟨i.val, by omega⟩ d) * WC (ix2 d k)) := by
  pointwise [mixL]

theorem rowsL_at (P : FVec Ideal S8x2048x1024 .f32) (b : Fin 8) (i : Fin 2048) (j : Fin 1024) :
    rowsL X M WO P (ix3 b i j) = X (ix3 b ⟨i.val, by omega⟩ j) + M (ix3 ⟨b.val, by omega⟩ 2 j) * ∑ k : Fin 1024, P (ix3 b i k) * WO (ix2 k j) := by
  pointwise [rowsL]

theorem normC_at (b : Fin 8) (i : Fin 256) (k : Fin 1024) :
    normC X M G (ix3 b i k) = norm (fun k => X (ix3 b ⟨2048 + i.val, by omega⟩ k)) (fun k => G (ix1 k)) (fun k => M (ix3 8 1 k))
      (fun k => M (ix3 8 0 k)) k := by
  pointwise [normC]
  rfl

theorem gatesC_at (N : FVec Ideal S8x256x1024 .f32) (b : Fin 8) (i : Fin 256) (l : Fin 3072) :
    gatesC WG BG N (ix3 b i l) = Ideal.logistic ((∑ k : Fin 1024, N (ix3 b i k) * WG (ix2 k l)) + BG (ix1 l)) := by
  pointwise [gatesC]
  rfl

theorem mixC_at (S : FVec Ideal S8x256x3072 .f32) (b : Fin 8) (i : Fin 256) (k : Fin 1024) :
    mixC YA YB YC WA WB WC S (ix3 b i k)
      = S (ix3 b i ⟨k.val, by omega⟩) * (∑ d : Fin 512, YA (ix3 b ⟨2048 + i.val, by omega⟩ d) * WA (ix2 d k))
        + S (ix3 b i ⟨1024 + k.val, by omega⟩) * (∑ d : Fin 512, YB (ix3 b ⟨2048 + i.val, by omega⟩ d) * WB (ix2 d k))
        + S (ix3 b i ⟨2048 + k.val, by omega⟩) * (∑ d : Fin 512, YC (ix3 b ⟨2048 + i.val, by omega⟩ d) * WC (ix2 d k)) := by
  pointwise [mixC]

theorem rowsC_at (P : FVec Ideal S8x256x1024 .f32) (b : Fin 8) (i : Fin 256) (j : Fin 1024) :
    rowsC X M WO P (ix3 b i j) = X (ix3 b ⟨2048 + i.val, by omega⟩ j) + M (ix3 8 2 j) * ∑ k : Fin 1024, P (ix3 b i k) * WO (ix2 k j) := by
  pointwise [rowsC]

theorem join_latent (A : FVec Ideal S8x2048x1024 .f32) (B : FVec Ideal S8x256x1024 .f32) (b : Fin 8) (i : Fin 2048) (j : Fin 1024) :
    join A B (ix3 b ⟨i.val, by omega⟩ j) = A (ix3 b i j) := by
  pointwise [join]

theorem join_context (A : FVec Ideal S8x2048x1024 .f32) (B : FVec Ideal S8x256x1024 .f32) (b : Fin 8) (i : Fin 256) (j : Fin 1024) :
    join A B (ix3 b ⟨2048 + i.val, by omega⟩ j) = B (ix3 b i j) := by
  pointwise [join]

/-- A latent row of the result. -/
theorem res_latent (b : Fin 8) (i : Fin 2048) (j : Fin 1024) :
    res X M G YA YB YC WG BG WA WB WC WO (ix3 b ⟨i.val, by omega⟩ j)
      = merge (fun k => X (ix3 b ⟨i.val, by omega⟩ k)) (fun k => G (ix1 k)) (fun k => M (ix3 ⟨b.val, by omega⟩ 1 k)) (fun k => M (ix3 ⟨b.val, by omega⟩ 0 k))
          (fun k => M (ix3 ⟨b.val, by omega⟩ 2 k)) (fun d => YA (ix3 b ⟨i.val, by omega⟩ d)) (fun d => YB (ix3 b ⟨i.val, by omega⟩ d)) (fun d => YC (ix3 b ⟨i.val, by omega⟩ d))
          (fun k l => WG (ix2 k l)) (fun l => BG (ix1 l)) (fun d k => WA (ix2 d k)) (fun d k => WB (ix2 d k))
          (fun d k => WC (ix2 d k)) (fun k j => WO (ix2 k j)) j := by
  unfold res
  rw [join_latent, rowsL_at]
  simp only [mixL_at, gatesL_at, normL_at]
  rfl

/-- A context row of the result. -/
theorem res_context (b : Fin 8) (i : Fin 256) (j : Fin 1024) :
    res X M G YA YB YC WG BG WA WB WC WO (ix3 b ⟨2048 + i.val, by omega⟩ j)
      = merge (fun k => X (ix3 b ⟨2048 + i.val, by omega⟩ k)) (fun k => G (ix1 k)) (fun k => M (ix3 8 1 k)) (fun k => M (ix3 8 0 k))
          (fun k => M (ix3 8 2 k)) (fun d => YA (ix3 b ⟨2048 + i.val, by omega⟩ d)) (fun d => YB (ix3 b ⟨2048 + i.val, by omega⟩ d)) (fun d => YC (ix3 b ⟨2048 + i.val, by omega⟩ d))
          (fun k l => WG (ix2 k l)) (fun l => BG (ix1 l)) (fun d k => WA (ix2 d k)) (fun d k => WB (ix2 d k))
          (fun d k => WC (ix2 d k)) (fun k j => WO (ix2 k j)) j := by
  unfold res
  rw [join_context, rowsC_at]
  simp only [mixC_at, gatesC_at, normC_at]
  rfl

end Cert.MergeRefIdeal.Value

end
-- ==== Proof.MergeArray.lean ====
/-
  What the merge call leaves in its result array: the reference's result, over the call's own arguments.
-/
module

public import proofs.«01_k».proof.Proof.MergeReference
public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

namespace Cert.MergeIdeal.Array

open Cert.MergeIdeal Cert.MergeIdeal.Gen Layer Idealize.ShloMosaic Idealize.ShloMosaic.TcCoe Idealize.SL.Sem

/-- One element of the block of results, from the twelve blocks read. -/
theorem block_at (x : FVec Ideal S1x256x1024 .f32) (s : FVec Ideal S1x6x1024 .f32) (g : FVec Ideal S1x1024 .f32)
    (ya yb yc : FVec Ideal S1x256x512 .bf16) (wg : FVec Ideal S1024x3072 .bf16) (bg : FVec Ideal S1x3072 .f32)
    (wa wb wc : FVec Ideal S512x1024 .bf16) (wo : FVec Ideal S1024x1024 .bf16) (y : S1x256x1024.Idx) (r : Fin 256) (j : Fin 1024)
    (hy : y = ix3 0 r j) :
    out0_12 (F := Ideal) x s g ya yb yc wg bg wa wb wc wo y
      = merge (fun k => x (ix3 0 r k)) (fun k => g (ix2 0 k)) (fun k => s (ix3 0 1 k)) (fun k => s (ix3 0 0 k))
          (fun k => s (ix3 0 2 k)) (fun d => ya (ix3 0 r d)) (fun d => yb (ix3 0 r d)) (fun d => yc (ix3 0 r d))
          (fun k l => wg (ix2 k l)) (fun l => bg (ix2 0 l)) (fun d k => wa (ix2 d k)) (fun d k => wb (ix2 d k))
          (fun d k => wc (ix2 d k)) (fun k j => wo (ix2 k j)) j := by
  subst hy
  frame_out
  pointwise [k0_pay1, k0_pay2, k0_pay3, k0_pay4, k0_pay5, k0_pay6, k0_pay7, k0_pay8, merge, gate, Layer.norm]

variable (m : (ℓ : Loc nD τ sig) → Buf (Elt Ideal) ℓ)

/-- The windows' block indices: batch item `t / 9` and tile `t % 9` of the rows, the batch item's modulation for a latent tile and
    the ninth for the context tile, the weights whole. -/
theorem idx : ∀ t : Fin cfg0.N, win0_0.index t = ![t.val / 9, t.val % 9, 0]
    ∧ win0_1.index t = ![if t.val % 9 < 8 then t.val / 9 else 8, 0, 0] ∧ win0_2.index t = ![0, 0]
    ∧ win0_3.index t = ![t.val / 9, t.val % 9, 0] ∧ win0_4.index t = ![t.val / 9, t.val % 9, 0]
    ∧ win0_5.index t = ![t.val / 9, t.val % 9, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 9, t.val % 9, 0] :=
  (by decide +kernel : ∀ t : Fin grid0.N, _)

theorem row_block (c : Dev nD) (t : Fin cfg0.N) (b : Fin 8) (i : Fin 2304) (r : Fin 256) (k : Fin 1024)
    (hb : b.val = t.val / 9) (hi : i.val = 256 * (t.val % 9) + r.val) :
    (show FVec Ideal S1x256x1024 .f32 from iblk m c 0 t) (ix3 0 r k)
      = (show FVec Ideal S8x2304x1024 .f32 from m ((c : Thread nD τ).loc main_arg0)) (ix3 b i k) := by
  blk_point [iblk, V, idx t]

theorem mod_block (c : Dev nD) (t : Fin cfg0.N) (b : Fin 16) (e : Fin 6) (k : Fin 1024)
    (hb : b.val = if t.val % 9 < 8 then t.val / 9 else 8) :
    (show FVec Ideal S1x6x1024 .f32 from iblk m c 1 t) (ix3 0 e k)
      = (show FVec Ideal S16x6x1024 .f32 from m ((c : Thread nD τ).loc main_arg1)) (ix3 b e k) := by
  blk_point [iblk, V, idx t]

theorem gain_block (c : Dev nD) (t : Fin cfg0.N) (k : Fin 1024) :
    (show FVec Ideal S1x1024 .f32 from iblk m c 2 t) (ix2 0 k)
      = (show FVec Ideal S1024 .f32 from m ((c : Thread nD τ).loc main_arg2)) (ix1 k) := by
  blk_point [iblk, V, idx t]

theorem first_block (c : Dev nD) (t : Fin cfg0.N) (b : Fin 8) (i : Fin 2304) (r : Fin 256) (d : Fin 512)
    (hb : b.val = t.val / 9) (hi : i.val = 256 * (t.val % 9) + r.val) :
    (show FVec Ideal S1x256x512 .bf16 from iblk m c 3 t) (ix3 0 r d)
      = (show FVec Ideal S8x2304x512 .bf16 from m ((c : Thread nD τ).loc main_arg3)) (ix3 b i d) := by
  blk_point [iblk, V, idx t]

theorem second_block (c : Dev nD) (t : Fin cfg0.N) (b : Fin 8) (i : Fin 2304) (r : Fin 256) (d : Fin 512)
    (hb : b.val = t.val / 9) (hi : i.val = 256 * (t.val % 9) + r.val) :
    (show FVec Ideal S1x256x512 .bf16 from iblk m c 4 t) (ix3 0 r d)
      = (show FVec Ideal S8x2304x512 .bf16 from m ((c : Thread nD τ).loc main_arg4)) (ix3 b i d) := by
  blk_point [iblk, V, idx t]

theorem third_block (c : Dev nD) (t : Fin cfg0.N) (b : Fin 8) (i : Fin 2304) (r : Fin 256) (d : Fin 512)
    (hb : b.val = t.val / 9) (hi : i.val = 256 * (t.val % 9) + r.val) :
    (show FVec Ideal S1x256x512 .bf16 from iblk m c 5 t) (ix3 0 r d)
      = (show FVec Ideal S8x2304x512 .bf16 from m ((c : Thread nD τ).loc main_arg5)) (ix3 b i d) := by
  blk_point [iblk, V, idx t]

theorem gates_block (c : Dev nD) (t : Fin cfg0.N) (k : Fin 1024) (l : Fin 3072) :
    (show FVec Ideal S1024x3072 .bf16 from iblk m c 6 t) (ix2 k l)
      = (show FVec Ideal S1024x3072 .f32 from m ((c : Thread nD τ).loc main_arg6)) (ix2 k l) := by
  blk_point [iblk, V, idx t]

theorem first_weight_block (c : Dev nD) (t : Fin cfg0.N) (k : Fin 512) (l : Fin 1024) :
    (show FVec Ideal S512x1024 .bf16 from iblk m c 8 t) (ix2 k l)
      = (show FVec Ideal S512x1024 .f32 from m ((c : Thread nD τ).loc main_arg8)) (ix2 k l) := by
  blk_point [iblk, V, idx t]

theorem second_weight_block (c : Dev nD) (t : Fin cfg0.N) (k : Fin 512) (l : Fin 1024) :
    (show FVec Ideal S512x1024 .bf16 from iblk m c 9 t) (ix2 k l)
      = (show FVec Ideal S512x1024 .f32 from m ((c : Thread nD τ).loc main_arg9)) (ix2 k l) := by
  blk_point [iblk, V, idx t]

theorem third_weight_block (c : Dev nD) (t : Fin cfg0.N) (k : Fin 512) (l : Fin 1024) :
    (show FVec Ideal S512x1024 .bf16 from iblk m c 10 t) (ix2 k l)
      = (show FVec Ideal S512x1024 .f32 from m ((c : Thread nD τ).loc main_arg10)) (ix2 k l) := by
  blk_point [iblk, V, idx t]

theorem out_block (c : Dev nD) (t : Fin cfg0.N) (k : Fin 1024) (l : Fin 1024) :
    (show FVec Ideal S1024x1024 .bf16 from iblk m c 11 t) (ix2 k l)
      = (show FVec Ideal S1024x1024 .f32 from m ((c : Thread nD τ).loc main_arg11)) (ix2 k l) := by
  blk_point [iblk, V, idx t]

theorem bias_block (c : Dev nD) (t : Fin cfg0.N) (l : Fin 3072) :
    (show FVec Ideal S1x3072 .f32 from iblk m c 7 t) (ix2 0 l)
      = (show FVec Ideal S3072 .f32 from m ((c : Thread nD τ).loc main_arg7)) (ix1 l) := by
  blk_point [iblk, V, idx t]

/-- One element of the block of results, from the argument arrays. -/
theorem point (c : Dev nD) (t : Fin cfg0.N) (b : Fin 8) (b' : Fin 16) (i : Fin 2304) (y : S1x256x1024.Idx) (r : Fin 256) (j : Fin 1024)
    (hy : y = ix3 0 r j) (hb : b.val = t.val / 9) (hb' : b'.val = if t.val % 9 < 8 then t.val / 9 else 8)
    (hi : i.val = 256 * (t.val % 9) + r.val) :
    out0_12 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) y
      = merge (fun k => (show FVec Ideal S8x2304x1024 .f32 from m ((c : Thread nD τ).loc main_arg0)) (ix3 b i k))
          (fun k => (show FVec Ideal S1024 .f32 from m ((c : Thread nD τ).loc main_arg2)) (ix1 k))
          (fun k => (show FVec Ideal S16x6x1024 .f32 from m ((c : Thread nD τ).loc main_arg1)) (ix3 b' 1 k))
          (fun k => (show FVec Ideal S16x6x1024 .f32 from m ((c : Thread nD τ).loc main_arg1)) (ix3 b' 0 k))
          (fun k => (show FVec Ideal S16x6x1024 .f32 from m ((c : Thread nD τ).loc main_arg1)) (ix3 b' 2 k))
          (fun d => (show FVec Ideal S8x2304x512 .bf16 from m ((c : Thread nD τ).loc main_arg3)) (ix3 b i d))
          (fun d => (show FVec Ideal S8x2304x512 .bf16 from m ((c : Thread nD τ).loc main_arg4)) (ix3 b i d))
          (fun d => (show FVec Ideal S8x2304x512 .bf16 from m ((c : Thread nD τ).loc main_arg5)) (ix3 b i d))
          (fun k l => (show FVec Ideal S1024x3072 .f32 from m ((c : Thread nD τ).loc main_arg6)) (ix2 k l))
          (fun l => (show FVec Ideal S3072 .f32 from m ((c : Thread nD τ).loc main_arg7)) (ix1 l))
          (fun d k => (show FVec Ideal S512x1024 .f32 from m ((c : Thread nD τ).loc main_arg8)) (ix2 d k))
          (fun d k => (show FVec Ideal S512x1024 .f32 from m ((c : Thread nD τ).loc main_arg9)) (ix2 d k))
          (fun d k => (show FVec Ideal S512x1024 .f32 from m ((c : Thread nD τ).loc main_arg10)) (ix2 d k))
          (fun k j => (show FVec Ideal S1024x1024 .f32 from m ((c : Thread nD τ).loc main_arg11)) (ix2 k j)) j := by
  refine (block_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) y r j hy).trans ?_
  exact merge_congr (fun k => row_block m c t b i r k hb hi) (fun k => gain_block m c t k) (fun k => mod_block m c t b' 1 k hb')
    (fun k => mod_block m c t b' 0 k hb') (fun k => mod_block m c t b' 2 k hb') (fun d => first_block m c t b i r d hb hi)
    (fun d => second_block m c t b i r d hb hi) (fun d => third_block m c t b i r d hb hi) (fun k l => gates_block m c t k l)
    (fun l => bias_block m c t l) (fun d k => first_weight_block m c t d k) (fun d k => second_weight_block m c t d k)
    (fun d k => third_weight_block m c t d k) (fun k j => out_block m c t k j) j

/-- THE RESULT of the call. -/
theorem final (c : Dev nD) :
    (dats m 0 c).arrAt 12 (cfgs 0).N
      = Cert.MergeRefIdeal.Value.res (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  have hN : t.val < 72 := t.isLt
  have h0 : (y 0).val < 1 := (y 0).isLt
  have h1 : (y 1).val < 256 := (y 1).isLt
  have h2 : (y 2).val < 1024 := (y 2).isLt
  have e : (win0_12.blk t).view.emb y = (ix3 (⟨t.val / 9, by omega⟩ : Fin 8) (⟨256 * (t.val % 9) + (y 1).val, by omega⟩ : Fin 2304)
      (⟨(y 2).val, h2⟩ : Fin 1024) : S8x2304x1024.Idx) := by
    blk_ext [idx t]
  have ey : y = (ix3 (0 : Fin 1) (⟨(y 1).val, h1⟩ : Fin 256) (⟨(y 2).val, h2⟩ : Fin 1024) : S1x256x1024.Idx) := by
    blk_ext
  rw [e]
  rcases Nat.lt_or_ge (t.val % 9) 8 with ht | ht
  · refine (point m c t ⟨t.val / 9, by omega⟩ ⟨t.val / 9, by omega⟩ ⟨256 * (t.val % 9) + (y 1).val, by omega⟩ y _ _ ey rfl (by rw [if_pos ht]) rfl).trans ?_
    exact (Cert.MergeRefIdeal.Value.res_latent _ _ _ _ _ _ _ _ _ _ _ _ ⟨t.val / 9, by omega⟩ ⟨256 * (t.val % 9) + (y 1).val, by omega⟩ ⟨(y 2).val, h2⟩).symm
  · have er : (⟨256 * (t.val % 9) + (y 1).val, by omega⟩ : Fin 2304) = ⟨2048 + (⟨(y 1).val, h1⟩ : Fin 256).val, by dsimp only; omega⟩ :=
      Fin.ext (by dsimp only; omega)
    refine (point m c t ⟨t.val / 9, by omega⟩ 8 ⟨256 * (t.val % 9) + (y 1).val, by omega⟩ y _ _ ey rfl (by rw [if_neg (by omega)]; rfl) rfl).trans ?_
    rw [er]
    exact (Cert.MergeRefIdeal.Value.res_context _ _ _ _ _ _ _ _ _ _ _ _ ⟨t.val / 9, by omega⟩ ⟨(y 1).val, h1⟩ ⟨(y 2).val, h2⟩).symm

end Cert.MergeIdeal.Array

end
-- ==== Proof.MergeClaim.lean ====
/-
  The claims about the merge: the three frames, that the idealization changes nothing, and that kernel and reference
  end with one result.
-/
module

public import proofs.«01_k».proof.Defs
public import Idealize.ShloMosaic.Lib.Claim
public import proofs.«01_k».proof.Proof.MergeArray
public import proofs.«01_k».proof.Proof.Gen.Merge.Frame
public import proofs.«01_k».proof.Proof.Gen.MergeIdeal.Frame
public import proofs.«01_k».proof.Proof.Gen.MergeRefIdeal.Run

@[expose] public section

set_option maxRecDepth 16384

noncomputable section

namespace Cert.MergeClaim

open Idealize.ShloMosaic Idealize.SL.Sem

theorem frame : Cert.quiescent_Merge := fun m ρ _ => Cert.Merge.Gen.frame m ρ

theorem frame_ideal : Cert.quiescent_MergeIdeal := fun m ρ _ => Cert.MergeIdeal.Gen.frame m ρ

theorem frame_reference : Cert.quiescent_MergeRefIdeal := by
  intro m g _
  exact (θ_run _ _ _).mono (fun r h => ⟨fun c => (h c).2, sem_eq_zero_of_no_sems (by decide) _⟩) (Cert.MergeRefIdeal.Value.run m g)

theorem preserves : Cert.preserves_Merge_MergeIdeal := trivial

/-- The kernel and the reference end with one result. -/
theorem algebraic : Cert.algebraic_MergeIdeal_MergeRefIdeal := by
  pair_intro
  · run_from Cert.MergeIdeal.Gen.run_main m g
  · run_from Cert.MergeRefIdeal.Value.run m' g'
    refine Eq.trans ?_ (Cert.MergeIdeal.Array.final m c).symm
    refine (Cert.MergeRefIdeal.Value.res_main m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]

end Cert.MergeClaim

end
-- ==== Proof.ModReference.lean ====
/-
  What the reference of the modulation computes, read at one element of its result: a row's activations, projected by one
  layer's weights, plus that layer's bias.
-/
module

public import proofs.«01_k».proof.Proof.Layer
public import proofs.«01_k».proof.Proof.Gen.ModRefIdeal.Run
public import Idealize.ShloMosaic.Lib.Pipeline.ValueKit
public import Idealize.ShloMosaic.Lib.Pointwise

@[expose] public section

set_option maxRecDepth 16384

noncomputable section

namespace Cert.ModRefIdeal.Value

open Cert.ModRefIdeal Cert.ModRefIdeal.Gen Layer Idealize.ShloMosaic Idealize.ShloMosaic.TcCoe Idealize.SL.Sem

variable (X : FVec Ideal S16x1024 .f32) (W : FVec Ideal S2x1024x6144 .f32) (B : FVec Ideal S2x6144 .f32)

/-- The rows' activations. -/
def active : FVec Ideal S16x1024 .f32 :=
  mulf X (Host.divf (broadcastInDim S16x1024 ![] bcast_S_S16x1024 (constant S_ .f32 0x3F800000#32)) (addf (broadcastInDim S16x1024 ![] bcast_S_S16x1024 (constant S_ .f32 0x3F800000#32)) (Host.exp (Host.negf X))))

/-- The first layer's modulation of activations `A`. -/
def first (A : FVec Ideal S16x1024 .f32) : FVec Ideal S16x6144 .f32 :=
  addf (Host.dotGeneral dot_S16x1024_S1024x6144_S16x6144_1_0_0_1_n_n none A (shapeCast _ (extractStridedSlice S1x1024x6144 ![0, 0, 0] W slices_S2x1024x6144_S1x1024x6144_0_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![0, 0] B slices_S2x6144_S1x6144_0_0) shapeCasts_S1x6144_S6144)))

/-- The second layer's modulation of activations `A`. -/
def second (A : FVec Ideal S16x1024 .f32) : FVec Ideal S16x6144 .f32 :=
  addf (Host.dotGeneral dot_S16x1024_S1024x6144_S16x6144_1_0_0_1_n_n none A (shapeCast _ (extractStridedSlice S1x1024x6144 ![1, 0, 0] W slices_S2x1024x6144_S1x1024x6144_1_0_0) shapeCasts_S1x1024x6144_S1024x6144)) (broadcastInDim S16x6144 ![0, 1] bcast_S1x6144_S16x6144_0_1 (broadcastInDim S1x6144 ![1] bcast_S6144_S1x6144_1 (shapeCast _ (extractStridedSlice S1x6144 ![1, 0] B slices_S2x6144_S1x6144_1_0) shapeCasts_S1x6144_S6144)))

/-- The two layers' modulations, one behind the other. -/
def stack (L M : FVec Ideal S16x6144 .f32) : FVec Ideal S2x16x6144 .f32 :=
  concatenate S2x16x6144 0 [⟨S1x16x6144, broadcastInDim S1x16x6144 ![1, 2] bcast_S16x6144_S1x16x6144_1_2 L⟩, ⟨S1x16x6144, broadcastInDim S1x16x6144 ![1, 2] bcast_S16x6144_S1x16x6144_1_2 M⟩] concatenates_S1x16x6144_S1x16x6144_S2x16x6144_d0

/-- The reference's result, over its arguments. -/
def res : FVec Ideal S2x16x6144 .f32 := stack (first W B (active X)) (second W B (active X))

theorem active_at (r : Fin 16) (k : Fin 1024) : active X (ix2 r k) = X (ix2 r k) * Ideal.logistic (X (ix2 r k)) := by
  pointwise [active]
  rfl

theorem first_at (A : FVec Ideal S16x1024 .f32) (r : Fin 16) (j : Fin 6144) :
    first W B A (ix2 r j) = (∑ k : Fin 1024, A (ix2 r k) * W (ix3 0 k j)) + B (ix2 0 j) := by
  pointwise [first]

theorem second_at (A : FVec Ideal S16x1024 .f32) (r : Fin 16) (j : Fin 6144) :
    second W B A (ix2 r j) = (∑ k : Fin 1024, A (ix2 r k) * W (ix3 1 k j)) + B (ix2 1 j) := by
  pointwise [second]

theorem stack_first (L M : FVec Ideal S16x6144 .f32) (r : Fin 16) (j : Fin 6144) : stack L M (ix3 0 r j) = L (ix2 r j) := by
  pointwise [stack]

theorem stack_second (L M : FVec Ideal S16x6144 .f32) (r : Fin 16) (j : Fin 6144) : stack L M (ix3 1 r j) = M (ix2 r j) := by
  pointwise [stack]

/-- One element of the result. -/
theorem res_at (l : Fin 2) (r : Fin 16) (j : Fin 6144) :
    res X W B (ix3 l r j) = modulation (fun k => X (ix2 r k)) (fun k => W (ix3 l k j)) (B (ix2 l j)) := by
  unfold res
  fin_cases l
  · refine (stack_first _ _ r j).trans ?_
    rw [first_at]
    simp only [active_at]
    rfl
  · refine (stack_second _ _ r j).trans ?_
    rw [second_at]
    simp only [active_at]
    rfl

end Cert.ModRefIdeal.Value

end
-- ==== Proof.ModArray.lean ====
/-
  What the modulation call leaves in its result array: the reference's result, over the call's own arguments.
-/
module

public import proofs.«01_k».proof.Proof.ModReference
public import proofs.«01_k».proof.Proof.Gen.ModIdeal.Value
public import Idealize.ShloMosaic.Lib.Pipeline.ValueKit
public import Idealize.ShloMosaic.Lib.Pointwise
public import Idealize.ShloMosaic.Lib.Claim

@[expose] public section

set_option maxRecDepth 16384

noncomputable section

namespace Cert.ModIdeal.Array

open Cert.ModIdeal Cert.ModIdeal.Gen Layer Idealize.ShloMosaic Idealize.ShloMosaic.TcCoe Idealize.SL.Sem

/-- One element of the block of results, from the three blocks read. -/
theorem block_at (x : FVec Ideal S16x1024 .f32) (w : FVec Ideal S1x1024x1536 .f32) (b : FVec Ideal S1x1x1536 .f32)
    (y : S1x16x1536.Idx) (r : Fin 16) (j : Fin 1536) (hy : y = ix3 0 r j) :
    out0_3 (F := Ideal) x w b y = modulation (fun k => x (ix2 r k)) (fun k => w (ix3 0 k j)) (b (ix3 0 0 j)) := by
  subst hy
  frame_out
  pointwise [k0_pay1, modulation]

variable (m : (ℓ : Loc nD τ sig) → Buf (Elt Ideal) ℓ)

/-- The windows' block indices: the rows whole, layer `t / 4` and tile `t % 4` of the columns. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

theorem row_block (c : Dev nD) (t : Fin cfg0.N) (r : Fin 16) (k : Fin 1024) :
    (show FVec Ideal S16x1024 .f32 from iblk m c 0 t) (ix2 r k)
      = (show FVec Ideal S16x1024 .f32 from m ((c : Thread nD τ).loc main_arg0)) (ix2 r k) := by
  blk_point [iblk, V, idx t]

theorem weight_block (c : Dev nD) (t : Fin cfg0.N) (l : Fin 2) (k : Fin 1024) (n : Fin 6144) (j : Fin 1536)
    (hl : l.val = t.val / 4) (hn : n.val = 1536 * (t.val % 4) + j.val) :
    (show FVec Ideal S1x1024x1536 .f32 from iblk m c 1 t) (ix3 0 k j)
      = (show FVec Ideal S2x1024x6144 .f32 from m ((c : Thread nD τ).loc main_arg1)) (ix3 l k n) := by
  blk_point [iblk, V, idx t]

theorem bias_block (c : Dev nD) (t : Fin cfg0.N) (l : Fin 2) (n : Fin 6144) (j : Fin 1536)
    (hl : l.val = t.val / 4) (hn : n.val = 1536 * (t.val % 4) + j.val) :
    (show FVec Ideal S1x1x1536 .f32 from iblk m c 2 t) (ix3 0 0 j)
      = (show FVec Ideal S2x6144 .f32 from m ((c : Thread nD τ).loc main_arg2)) (ix2 l n) := by
  blk_point [iblk, V, idx t]

/-- THE RESULT of the call. -/
theorem final (c : Dev nD) :
    (dats m 0 c).arrAt 3 (cfgs 0).N
      = Cert.ModRefIdeal.Value.res (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  have hN : t.val < 8 := t.isLt
  have h0 : (y 0).val < 1 := (y 0).isLt
  have h1 : (y 1).val < 16 := (y 1).isLt
  have h2 : (y 2).val < 1536 := (y 2).isLt
  have e : (win0_3.blk t).view.emb y = (ix3 (⟨t.val / 4, by omega⟩ : Fin 2) (⟨(y 1).val, h1⟩ : Fin 16)
      (⟨1536 * (t.val % 4) + (y 2).val, by omega⟩ : Fin 6144) : S2x16x6144.Idx) := by
    blk_ext [idx t]
  have ey : y = (ix3 (0 : Fin 1) (⟨(y 1).val, h1⟩ : Fin 16) (⟨(y 2).val, h2⟩ : Fin 1536) : S1x16x1536.Idx) := by
    blk_ext
  rw [e]
  refine (block_at (iblk m c 0 t) (iblk m c 1 t) (iblk m c 2 t) y _ _ ey).trans ?_
  refine Eq.trans ?_ (Cert.ModRefIdeal.Value.res_at _ _ _ ⟨t.val / 4, by omega⟩ ⟨(y 1).val, h1⟩ ⟨1536 * (t.val % 4) + (y 2).val, by omega⟩).symm
  exact modulation_congr (fun k => row_block m c t _ k) (fun k => weight_block m c t _ k _ _ rfl rfl) (bias_block m c t _ _ _ rfl rfl)

end Cert.ModIdeal.Array

end
-- ==== Proof.ModClaim.lean ====
/-
  The claims about the modulation: the three frames, that the idealization changes nothing, and that kernel and
  reference end with one result.
-/
module

public import proofs.«01_k».proof.Defs
public import Idealize.ShloMosaic.Lib.Claim
public import proofs.«01_k».proof.Proof.ModArray
public import proofs.«01_k».proof.Proof.Gen.Mod.Frame
public import proofs.«01_k».proof.Proof.Gen.ModIdeal.Frame
public import proofs.«01_k».proof.Proof.Gen.ModRefIdeal.Run

@[expose] public section

set_option maxRecDepth 16384

noncomputable section

namespace Cert.ModClaim

open Idealize.ShloMosaic Idealize.SL.Sem

theorem frame : Cert.quiescent_Mod := fun m ρ _ => Cert.Mod.Gen.frame m ρ

theorem frame_ideal : Cert.quiescent_ModIdeal := fun m ρ _ => Cert.ModIdeal.Gen.frame m ρ

theorem frame_reference : Cert.quiescent_ModRefIdeal := by
  intro m g _
  exact (θ_run _ _ _).mono (fun r h => ⟨fun c => (h c).2, sem_eq_zero_of_no_sems (by decide) _⟩) (Cert.ModRefIdeal.Value.run m g)

theorem preserves : Cert.preserves_Mod_ModIdeal := trivial

/-- The kernel and the reference end with one result. -/
theorem algebraic : Cert.algebraic_ModIdeal_ModRefIdeal := by
  pair_intro
  · run_from Cert.ModIdeal.Gen.run_main m g
  · run_from Cert.ModRefIdeal.Value.run m' g'
    refine Eq.trans ?_ (Cert.ModIdeal.Array.final m c).symm
    exact congrArg (Cert.ModRefIdeal.Value.res _ _) (hagree c).2.2

end Cert.ModClaim

end
-- ==== Proof.Heads.lean ====
/-
  Two heads of 64 lanes side by side over the extended reals: each divided by its root mean square, and turned by position tables;
  and the same norm taken over all 128 lanes with a mask for each head.
-/
module

public import Idealize.ShloMosaic.Lib.Pointwise
public import Idealize.ShloMosaic.Lib.IdealHost

@[expose] public section

noncomputable section

namespace Heads

open Idealize.ShloMosaic

/-- Lane `d`, divided by its head's root mean square, times its gain. -/
def unit (x g : Fin 128 → EReal) (d : Fin 128) : EReal :=
  x d * Ideal.rsqrt (Ideal.div (∑ j : Fin 64, x ⟨64 * (d.val / 64) + j.val, by omega⟩ * x ⟨64 * (d.val / 64) + j.val, by omega⟩)
    (Ideal.ofBits .f32 0x42800000#32) + Ideal.ofBits .f32 0x358637BD#32) * g d

/-- The lane 16 away in the same group of 32. -/
def partner (d : Fin 128) : Fin 128 := ⟨if d.val % 32 < 16 then d.val + 16 else d.val - 16, by split_ifs <;> omega⟩

/-- Lane `d` turned by its position's cosine and sine. -/
def turn (x c s : Fin 128 → EReal) (d : Fin 128) : EReal := x d * c d + x (partner d) * s d

/-- A lane of two heads: normed, turned and scaled. -/
def lane (x g c s : Fin 128 → EReal) (d : Fin 128) : EReal := turn (unit x g) c s d * Ideal.ofBits .f32 0x3E000000#32

/-- Equal rows, gains and tables give equal lanes. -/
theorem lane_congr {x x' g g' c c' s s' : Fin 128 → EReal} (hx : ∀ k, x k = x' k) (hg : ∀ k, g k = g' k) (hc : ∀ k, c k = c' k)
    (hs : ∀ k, s k = s' k) (d : Fin 128) : lane x g c s d = lane x' g' c' s' d := by
  obtain rfl : x = x' := funext hx
  obtain rfl : g = g' := funext hg
  obtain rfl : c = c' := funext hc
  obtain rfl : s = s' := funext hs
  rfl

/-- Multiplying by a sixty-fourth is dividing by sixty-four. -/
theorem mean_eq (a : EReal) : a * Ideal.ofBits .f32 0x3C800000#32 = Ideal.div a (Ideal.ofBits .f32 0x42800000#32) := by
  have e : Ideal.ofBits .f32 0x42800000#32 = ((64 : ℝ) : EReal) := by
    simp [Ideal.ofBits, Ideal.ieee, -EReal.coe_mul]
    norm_num
  have e' : Ideal.ofBits .f32 0x3C800000#32 = (((64 : ℝ)⁻¹ : ℝ) : EReal) := by
    simp [Ideal.ofBits, Ideal.ieee, -EReal.coe_mul]
    norm_num
  rw [e, e', EReal.coe_inv, Ideal.div, if_neg (EReal.coe_ne_zero.2 (by norm_num))]

/-- A sum over all lanes that counts only those of head `h`. -/
theorem sum_head (f : Fin 128 → EReal) (h : ℕ) (hh : h < 2) :
    ∑ k : Fin 128, f k * (if k.val / 64 = h then (1 : EReal) else 0) = ∑ j : Fin 64, f ⟨64 * h + j.val, by omega⟩ := by
  simp only [mul_ite, mul_one, mul_zero]
  rw [← Finset.sum_filter]
  symm
  refine Finset.sum_bij (fun j _ => ⟨64 * h + j.val, by omega⟩) ?_ ?_ ?_ ?_
  · intro j _
    simp only [Finset.mem_filter, Finset.mem_univ, true_and]
    have := j.isLt
    omega
  · intro j _ j' _ e
    have := congrArg Fin.val e
    dsimp only at this
    exact Fin.ext (by omega)
  · intro k hk
    simp only [Finset.mem_filter, Finset.mem_univ, true_and] at hk
    exact ⟨⟨k.val - 64 * h, by omega⟩, Finset.mem_univ _, Fin.ext (by dsimp only; omega)⟩
  · intro j _
    rfl

/-- The norm taken with a mask for each head is the head's norm. -/
theorem masked (x g : Fin 128 → EReal) (lo : Fin 128 → EReal) (hlo : ∀ k : Fin 128, lo k = if k.val < 64 then 1 else 0) (d : Fin 128) :
    x d * (Ideal.rsqrt ((∑ k, x k * x k * lo k) * Ideal.ofBits .f32 0x3C800000#32 + Ideal.ofBits .f32 0x358637BD#32) * lo d
      + Ideal.rsqrt ((∑ k, x k * x k * (1 - lo k)) * Ideal.ofBits .f32 0x3C800000#32 + Ideal.ofBits .f32 0x358637BD#32) * (1 - lo d)) * g d
      = unit x g d := by
  have e0 : ∀ k : Fin 128, lo k = if k.val / 64 = 0 then 1 else 0 := fun k => by
    rw [hlo]
    exact if_congr (by omega) rfl rfl
  have e1 : ∀ k : Fin 128, 1 - lo k = if k.val / 64 = 1 then 1 else 0 := fun k => by
    rw [hlo]
    have := k.isLt
    split_ifs
    all_goals first
      | (exfalso; omega)
      | exact EReal.sub_self (EReal.coe_ne_top 1) (EReal.coe_ne_bot 1)
      | exact sub_zero 1
  simp only [e1]
  simp only [e0]
  rw [sum_head _ 0 (by decide), sum_head _ 1 (by decide), mean_eq, mean_eq]
  have hd := d.isLt
  unfold unit
  rcases (by omega : d.val / 64 = 0 ∨ d.val / 64 = 1) with h | h
  · simp [h]
  · simp [h]

end Heads

end
-- ==== Proof.InReference.lean ====
/-
  What the reference of the input projection computes, read at one element of its results: a row's modulated norm, projected
  by columns of the weights, for the values of the grouped-query attention, for the compressed keys and values, whose values it
  also expands, and for the input of the Fourier mixing.
-/
module

public import proofs.«01_k».proof.Proof.Layer
public import proofs.«01_k».proof.Proof.Gen.InRefIdeal.Run
public import Idealize.ShloMosaic.Lib.Pipeline.ValueKit
public import Idealize.ShloMosaic.Lib.Pointwise

@[expose] public section

set_option maxRecDepth 16384

noncomputable section

namespace Cert.InRefIdeal.Value

open Cert.InRefIdeal Cert.InRefIdeal.Gen Layer Idealize.ShloMosaic Idealize.ShloMosaic.TcCoe Idealize.SL.Sem

variable (X : FVec Ideal S8x2304x1024 .f32) (M : FVec Ideal S16x6x1024 .f32) (G : FVec Ideal S1024 .f32)
  (W : FVec Ideal S1024x2048 .bf16)

/-- The modulated norm of the latent rows. -/
def normL : FVec Ideal S8x2048x1024 .f32 :=
  (addf (mulf (mulf (mulf (extractStridedSlice S8x2048x1024 ![0, 0, 0] X slices_S8x2304x1024_S8x2048x1024_0_0_0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (extractStridedSlice S8x2048x1024 ![0, 0, 0] X slices_S8x2304x1024_S8x2048x1024_0_0_0) (extractStridedSlice S8x2048x1024 ![0, 0, 0] X slices_S8x2304x1024_S8x2048x1024_0_0_0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 G))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 1, 0] (extractStridedSlice S8x6x1024 ![0, 0, 0] M slices_S16x6x1024_S8x6x1024_0_0_0) slices_S8x6x1024_S8x1x1024_0_1_0)))) (broadcastInDim S8x2048x1024 ![0, 1, 2] bcast_S8x1x1024_S8x2048x1024_0_1_2 (extractStridedSlice S8x1x1024 ![0, 0, 0] (extractStridedSlice S8x6x1024 ![0, 0, 0] M slices_S16x6x1024_S8x6x1024_0_0_0) slices_S8x6x1024_S8x1x1024_0_0_0)))

/-- The modulated norm of the context rows. -/
def normC : FVec Ideal S8x256x1024 .f32 :=
  (addf (mulf (mulf (mulf (extractStridedSlice S8x256x1024 ![0, 2048, 0] X slices_S8x2304x1024_S8x256x1024_0_2048_0) (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf (extractStridedSlice S8x256x1024 ![0, 2048, 0] X slices_S8x2304x1024_S8x256x1024_0_2048_0) (extractStridedSlice S8x256x1024 ![0, 2048, 0] X slices_S8x2304x1024_S8x256x1024_0_2048_0)) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S1x1x1024_S8x256x1024_0_1_2 (addf (broadcastInDim S1x1x1024 ![] bcast_S_S1x1x1024 (constant S_ .f32 0x3F800000#32)) (extractStridedSlice S1x1x1024 ![0, 1, 0] (extractStridedSlice S1x6x1024 ![8, 0, 0] M slices_S16x6x1024_S1x6x1024_8_0_0) slices_S1x6x1024_S1x1x1024_0_1_0)))) (broadcastInDim S8x256x1024 ![0, 1, 2] bcast_S1x1x1024_S8x256x1024_0_1_2 (extractStridedSlice S1x1x1024 ![0, 0, 0] (extractStridedSlice S1x6x1024 ![8, 0, 0] M slices_S16x6x1024_S1x6x1024_8_0_0) slices_S1x6x1024_S1x1x1024_0_0_0)))

variable (N : FVec Ideal S8x2048x1024 .f32) (C : FVec Ideal S8x256x1024 .f32)

/-- The values of normed latent rows `N` and context rows `C`. -/
def values : FVec Ideal S8x2304x128 .f32 :=
  concatenate S8x2304x128 1 [⟨S8x2048x128, Host.dotGeneral dot_S8x2048x1024_S1024x128_S8x2048x128_2_0_01_1_n_n none N (extf .f32 (extractStridedSlice S1024x128 ![0, 640] W slices_S1024x2048_S1024x128_0_640) bitsLt_bf16_f32)⟩, ⟨S8x256x128, Host.dotGeneral dot_S8x256x1024_S1024x128_S8x256x128_2_0_01_1_n_n none C (extf .f32 (extractStridedSlice S1024x128 ![0, 640] W slices_S1024x2048_S1024x128_0_640) bitsLt_bf16_f32)⟩] concatenates_S8x2048x128_S8x256x128_S8x2304x128_d1

/-- The compressed keys and values of normed latent rows `N` and context rows `C`. -/
def compressed : FVec Ideal S8x2304x256 .f32 :=
  concatenate S8x2304x256 1 [⟨S8x2048x256, Host.dotGeneral dot_S8x2048x1024_S1024x256_S8x2048x256_2_0_01_1_n_n none N (extf .f32 (extractStridedSlice S1024x256 ![0, 1152] W slices_S1024x2048_S1024x256_0_1152) bitsLt_bf16_f32)⟩, ⟨S8x256x256, Host.dotGeneral dot_S8x256x1024_S1024x256_S8x256x256_2_0_01_1_n_n none C (extf .f32 (extractStridedSlice S1024x256 ![0, 1152] W slices_S1024x2048_S1024x256_0_1152) bitsLt_bf16_f32)⟩] concatenates_S8x2048x256_S8x256x256_S8x2304x256_d1

/-- The Fourier mixing's input of normed latent rows `N` and context rows `C`. -/
def features : FVec Ideal S8x2304x512 .f32 :=
  concatenate S8x2304x512 1 [⟨S8x2048x512, Host.dotGeneral dot_S8x2048x1024_S1024x512_S8x2048x512_2_0_01_1_n_n none N (extf .f32 (extractStridedSlice S1024x512 ![0, 1408] W slices_S1024x2048_S1024x512_0_1408) bitsLt_bf16_f32)⟩, ⟨S8x256x512, Host.dotGeneral dot_S8x256x1024_S1024x512_S8x256x512_2_0_01_1_n_n none C (extf .f32 (extractStridedSlice S1024x512 ![0, 1408] W slices_S1024x2048_S1024x512_0_1408) bitsLt_bf16_f32)⟩] concatenates_S8x2048x512_S8x256x512_S8x2304x512_d1

/-- The two heads of the values, each once in the low and once in the high half of 128 lanes. -/
def forms (x : FVec Ideal S8x2304x128 .f32) : FVec Ideal S8x2304x512 .bf16 :=
  truncf (F := Ideal) .bf16 (concatenate S8x2304x512 2
        [⟨S8x2304x64, extractStridedSlice S8x2304x64 ![0, 0, 0] x slices_S8x2304x128_S8x2304x64_0_0_0⟩, ⟨S8x2304x64, broadcastInDim S8x2304x64 ![] bcast_S_S8x2304x64 (constant (F := Ideal) S_ .f32 0x00000000#32)⟩, ⟨S8x2304x64, broadcastInDim S8x2304x64 ![] bcast_S_S8x2304x64 (constant (F := Ideal) S_ .f32 0x00000000#32)⟩,
         ⟨S8x2304x64, extractStridedSlice S8x2304x64 ![0, 0, 0] x slices_S8x2304x128_S8x2304x64_0_0_0⟩,
         ⟨S8x2304x64, extractStridedSlice S8x2304x64 ![0, 0, 64] x slices_S8x2304x128_S8x2304x64_0_0_64⟩, ⟨S8x2304x64, broadcastInDim S8x2304x64 ![] bcast_S_S8x2304x64 (constant (F := Ideal) S_ .f32 0x00000000#32)⟩, ⟨S8x2304x64, broadcastInDim S8x2304x64 ![] bcast_S_S8x2304x64 (constant (F := Ideal) S_ .f32 0x00000000#32)⟩,
         ⟨S8x2304x64, extractStridedSlice S8x2304x64 ![0, 0, 64] x slices_S8x2304x128_S8x2304x64_0_0_64⟩] concatenates_S8x2304x64_S8x2304x64_S8x2304x64_S8x2304x64_S8x2304x64_S8x2304x64_S8x2304x64_S8x2304x64_S8x2304x512_d2) bitsLt_bf16_f32

/-- The values that compressed rows `x` stand for: each row normed, times the gains `g`, expanded by `w`. -/
def expanded (x : FVec Ideal S8x2304x256 .f32) (g : FVec Ideal S256 .f32) (w : FVec Ideal S256x1024 .bf16) : FVec Ideal S8x2304x1024 .bf16 :=
  truncf .bf16 (Host.dotGeneral dot_S8x2304x256_S256x1024_S8x2304x1024_2_0_01_1_n_n none (mulf (mulf x (broadcastInDim S8x2304x256 ![0, 1, 2] bcast_S8x2304x1_S8x2304x256_0_1_2 (Host.rsqrt (addf (Host.divf (broadcastInDim S8x2304x1 ![0, 1] bcast_S8x2304_S8x2304x1_0_1 (Host.reduceAdd (mulf x x) (constant S_ .f32 0x00000000#32) reducesTo_S8x2304x256_S8x2304_d2 h_S_)) (broadcastInDim S8x2304x1 ![] bcast_S_S8x2304x1 (constant S_ .f32 0x43800000#32))) (broadcastInDim S8x2304x1 ![] bcast_S_S8x2304x1 (constant S_ .f32 0x358637BD#32)))))) (broadcastInDim S8x2304x256 ![0, 1, 2] bcast_S1x1x256_S8x2304x256_0_1_2 (broadcastInDim S1x1x256 ![2] bcast_S256_S1x1x256_2 g))) (extf .f32 w bitsLt_bf16_f32)) bitsLt_bf16_f32

/-- The gains of the norm, as a vector. -/
def gains (g : FVec Ideal S1x1024 .f32) : FVec Ideal S1024 .f32 := shapeCast _ g shapeCasts_S1x1024_S1024

/-- The gains of the compressed rows' norm, as a vector. -/
def gains' (g : FVec Ideal S1x256 .f32) : FVec Ideal S256 .f32 := shapeCast _ g shapeCasts_S1x256_S256

/-- The reference's values in their forms, over its arguments. -/
def resV (g : FVec Ideal S1x1024 .f32) : FVec Ideal S8x2304x512 .bf16 :=
  forms (values W (normL X M (gains g)) (normC X M (gains g)))

/-- The reference's expanded values, over its arguments. -/
def resL (g : FVec Ideal S1x1024 .f32) (gc : FVec Ideal S1x256 .f32) (wv : FVec Ideal S256x1024 .bf16) : FVec Ideal S8x2304x1024 .bf16 :=
  expanded (compressed W (normL X M (gains g)) (normC X M (gains g))) (gains' gc) wv

/-- The reference's Fourier input, over its arguments. -/
def resF (g : FVec Ideal S1x1024 .f32) : FVec Ideal S8x2304x512 .bf16 :=
  truncf (F := Ideal) .bf16 (features W (normL X M (gains g)) (normC X M (gains g))) bitsLt_bf16_f32

/-- Every run of the reference ends with these three named results. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v115) = resV (m ((c.tc : Thread nD τ).loc main_arg0)) (m ((c.tc : Thread nD τ).loc main_arg1)) (m ((c.tc : Thread nD τ).loc main_arg3)) (m ((c.tc : Thread nD τ).loc main_arg2))
      ∧ r.2.mem ((c.tc : Thread nD τ).loc main_v132) = resL (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg10)) (m ((c.tc : Thread nD τ).loc main_arg6))
      ∧ r.2.mem ((c.tc : Thread nD τ).loc main_v133) = resF (m ((c.tc : Thread nD τ).loc main_arg0)) (m ((c.tc : Thread nD τ).loc main_arg1)) (m ((c.tc : Thread nD τ).loc main_arg3)) (m ((c.tc : Thread nD τ).loc main_arg2)) :=
  (θ_run _ _ _).mono (fun _ h c => ⟨(h c).2.1, (h c).2.2.1, (h c).2.2.2.1⟩) (run m ρ)

theorem gains_at (g : FVec Ideal S1x1024 .f32) (k : Fin 1024) : gains g (ix1 k) = g (ix2 0 k) := by
  pointwise [gains]

theorem gains'_at (g : FVec Ideal S1x256 .f32) (k : Fin 256) : gains' g (ix1 k) = g (ix2 0 k) := by
  pointwise [gains']

theorem normL_at (b : Fin 8) (i : Fin 2048) (k : Fin 1024) :
    normL X M G (ix3 b i k) = norm (fun k => X (ix3 b ⟨i.val, by omega⟩ k)) (fun k => G (ix1 k)) (fun k => M (ix3 ⟨b.val, by omega⟩ 1 k))
      (fun k => M (ix3 ⟨b.val, by omega⟩ 0 k)) k := by
  pointwise [normL]
  rfl

theorem normC_at (b : Fin 8) (i : Fin 256) (k : Fin 1024) :
    normC X M G (ix3 b i k) = norm (fun k => X (ix3 b ⟨2048 + i.val, by omega⟩ k)) (fun k => G (ix1 k)) (fun k => M (ix3 8 1 k))
      (fun k => M (ix3 8 0 k)) k := by
  pointwise [normC]
  rfl

/-- Lane `d` of form `q`: the head's lane in the half of the form's parity, zero in the other. -/
theorem forms_at (x : FVec Ideal S8x2304x128 .f32) (b : Fin 8) (t : Fin 2304) (q : Fin 4) (d : Fin 128) :
    forms x (ix3 b t ⟨128 * q.val + d.val, by omega⟩)
      = if d.val / 64 = q.val % 2 then x (ix3 b t ⟨64 * (q.val / 2) + d.val % 64, by omega⟩) else 0 := by
  pointwise [forms]
  by_cases e : d.val / 64 = q.val % 2
  · rw [if_pos e]
    split_ifs
    all_goals first
      | (exfalso; omega)
      | (refine congrArg x ((ix3_inj ..).2 ⟨rfl, rfl, Fin.ext ?_⟩); dsimp only; omega)
  · rw [if_neg e]
    split_ifs
    all_goals first
      | rfl
      | (exfalso; omega)

/-- One element of the expanded values. -/
theorem expanded_at (x : FVec Ideal S8x2304x256 .f32) (g : FVec Ideal S256 .f32) (w : FVec Ideal S256x1024 .bf16) (b : Fin 8) (i : Fin 2304)
    (j : Fin 1024) :
    expanded x g w (ix3 b i j) = expand (fun k => x (ix3 b i k)) (fun k => g (ix1 k)) (fun k => w (ix2 k j)) := by
  pointwise [expanded]
  rfl

/-- The projection of row `i` of batch item `b`, with modulation row `b'`, on weights `w`. -/
def projected (b : Fin 8) (b' : Fin 16) (i : Fin 2304) (w : Fin 1024 → EReal) : EReal :=
  project (fun k => X (ix3 b i k)) (fun k => G (ix1 k)) (fun k => M (ix3 b' 1 k)) (fun k => M (ix3 b' 0 k)) w

/-- What holds of every latent row with its batch item's modulation, and of every context row with the ninth, holds of every row. -/
theorem by_rows (P : Fin 8 → Fin 16 → Fin 2304 → Prop)
    (hl : ∀ (b : Fin 8) (i : Fin 2048), P b ⟨b.val, b.isLt.trans (by decide)⟩ ⟨i.val, i.isLt.trans (by decide)⟩)
    (hc : ∀ (b : Fin 8) (r : Fin 256), P b 8 ⟨2048 + r.val, Nat.add_lt_add_left r.isLt 2048⟩)
    (b : Fin 8) (b' : Fin 16) (i : Fin 2304) (hb : b'.val = if i.val < 2048 then b.val else 8) : P b b' i := by
  rcases Nat.lt_or_ge i.val 2048 with h | h
  · obtain rfl : b' = ⟨b.val, b.isLt.trans (by decide)⟩ := Fin.ext (hb.trans (if_pos h))
    exact hl b ⟨i.val, h⟩
  · obtain rfl : b' = 8 := Fin.ext (hb.trans (if_neg (Nat.not_lt.2 h)))
    have e : i = ⟨2048 + (⟨i.val - 2048, by omega⟩ : Fin 256).val, by dsimp only; omega⟩ := Fin.ext (by dsimp only; omega)
    rw [e]
    exact hc b _

/-- One value: the batch item's modulation in a latent row, the ninth in a context row. -/
theorem values_at (b : Fin 8) (b' : Fin 16) (i : Fin 2304) (j : Fin 128) (hb : b'.val = if i.val < 2048 then b.val else 8) :
    values W (normL X M G) (normC X M G) (ix3 b i j) = projected X M G b b' i (fun k => W (ix2 k ⟨640 + j.val, by omega⟩)) := by
  refine by_rows (fun b b' i => values W (normL X M G) (normC X M G) (ix3 b i j) = projected X M G b b' i (fun k => W (ix2 k ⟨640 + j.val, by omega⟩)))
    (fun b i => ?_) (fun b r => ?_) b b' i hb
  · pointwise [values]
    simp only [normL_at]
    rfl
  · pointwise [values]
    simp only [normC_at]
    rfl

/-- One compressed element: the batch item's modulation in a latent row, the ninth in a context row. -/
theorem compressed_at (b : Fin 8) (b' : Fin 16) (i : Fin 2304) (j : Fin 256) (hb : b'.val = if i.val < 2048 then b.val else 8) :
    compressed W (normL X M G) (normC X M G) (ix3 b i j) = projected X M G b b' i (fun k => W (ix2 k ⟨1152 + j.val, by omega⟩)) := by
  refine by_rows (fun b b' i => compressed W (normL X M G) (normC X M G) (ix3 b i j) = projected X M G b b' i (fun k => W (ix2 k ⟨1152 + j.val, by omega⟩)))
    (fun b i => ?_) (fun b r => ?_) b b' i hb
  · pointwise [compressed]
    simp only [normL_at]
    rfl
  · pointwise [compressed]
    simp only [normC_at]
    rfl

/-- One element of the Fourier input: the batch item's modulation in a latent row, the ninth in a context row. -/
theorem features_at (b : Fin 8) (b' : Fin 16) (i : Fin 2304) (j : Fin 512) (hb : b'.val = if i.val < 2048 then b.val else 8) :
    features W (normL X M G) (normC X M G) (ix3 b i j) = projected X M G b b' i (fun k => W (ix2 k ⟨1408 + j.val, by omega⟩)) := by
  refine by_rows (fun b b' i => features W (normL X M G) (normC X M G) (ix3 b i j) = projected X M G b b' i (fun k => W (ix2 k ⟨1408 + j.val, by omega⟩)))
    (fun b i => ?_) (fun b r => ?_) b b' i hb
  · pointwise [features]
    simp only [normL_at]
    rfl
  · pointwise [features]
    simp only [normC_at]
    rfl

end Cert.InRefIdeal.Value

end
-- ==== Proof.InQueryReference.lean ====
/-
  What the reference of the input projection computes for the queries, read at one element: a row's modulated norm, projected, each
  head normed, turned by the position tables and scaled.
-/
module

public import proofs.«01_k».proof.Proof.Heads
public import proofs.«01_k».proof.Proof.InReference

@[expose] public section

set_option maxRecDepth 16384

noncomputable section

namespace Cert.InRefIdeal.Value

open Cert.InRefIdeal Cert.InRefIdeal.Gen Layer Idealize.ShloMosaic Idealize.ShloMosaic.TcCoe Idealize.SL.Sem

variable (X : FVec Ideal S8x2304x1024 .f32) (M : FVec Ideal S16x6x1024 .f32) (G : FVec Ideal S1024 .f32)
  (W : FVec Ideal S1024x2048 .bf16) (N : FVec Ideal S8x2048x1024 .f32) (C : FVec Ideal S8x256x1024 .f32)

/-- The projected queries of normed latent rows `N` and context rows `C`. -/
def queries : FVec Ideal S8x2304x512 .f32 :=
  concatenate S8x2304x512 1 [⟨S8x2048x512, Host.dotGeneral dot_S8x2048x1024_S1024x512_S8x2048x512_2_0_01_1_n_n none N (extf .f32 (extractStridedSlice S1024x512 ![0, 0] W slices_S1024x2048_S1024x512_0_0) bitsLt_bf16_f32)⟩, ⟨S8x256x512, Host.dotGeneral dot_S8x256x1024_S1024x512_S8x256x512_2_0_01_1_n_n none C (extf .f32 (extractStridedSlice S1024x512 ![0, 0] W slices_S1024x2048_S1024x512_0_0) bitsLt_bf16_f32)⟩] concatenates_S8x2048x512_S8x256x512_S8x2304x512_d1

/-- Queries `Q` with each head normed, times the gains `g`. -/
def normed (Q : FVec Ideal S8x2304x512 .f32) (g : FVec Ideal S128 .f32) : FVec Ideal S8x2304x4x2x64 .f32 :=
  (mulf (mulf (shapeCast _ Q shapeCasts_S8x2304x512_S8x2304x4x2x64) (broadcastInDim S8x2304x4x2x64 ![0, 1, 2, 3, 4] bcast_S8x2304x4x2x1_S8x2304x4x2x64_0_1_2_3_4 (Host.rsqrt (addf (Host.divf (broadcastInDim S8x2304x4x2x1 ![0, 1, 2, 3] bcast_S8x2304x4x2_S8x2304x4x2x1_0_1_2_3 (Host.reduceAdd (mulf (shapeCast _ Q shapeCasts_S8x2304x512_S8x2304x4x2x64) (shapeCast _ Q shapeCasts_S8x2304x512_S8x2304x4x2x64)) (constant S_ .f32 0x00000000#32) reducesTo_S8x2304x4x2x64_S8x2304x4x2_d4 h_S_)) (broadcastInDim S8x2304x4x2x1 ![] bcast_S_S8x2304x4x2x1 (constant S_ .f32 0x42800000#32))) (broadcastInDim S8x2304x4x2x1 ![] bcast_S_S8x2304x4x2x1 (constant S_ .f32 0x358637BD#32)))))) (broadcastInDim S8x2304x4x2x64 ![0, 1, 2, 3, 4] bcast_S1x1x1x2x64_S8x2304x4x2x64_0_1_2_3_4 (broadcastInDim S1x1x1x2x64 ![3, 4] bcast_S2x64_S1x1x1x2x64_3_4 (shapeCast _ g shapeCasts_S128_S2x64))))

/-- The two halves of each group of 32 lanes exchanged. -/
def swapped (U : FVec Ideal S8x2304x4x2x64 .f32) : FVec Ideal S8x2304x4x128 .f32 :=
  (shapeCast _ (concatenate S8x2304x16x2x16 3 [⟨S8x2304x16x1x16, (extractStridedSlice S8x2304x16x1x16 ![0, 0, 0, 1, 0] (shapeCast _ U shapeCasts_S8x2304x4x2x64_S8x2304x16x2x16) slices_S8x2304x16x2x16_S8x2304x16x1x16_0_0_0_1_0)⟩, ⟨S8x2304x16x1x16, (extractStridedSlice S8x2304x16x1x16 ![0, 0, 0, 0, 0] (shapeCast _ U shapeCasts_S8x2304x4x2x64_S8x2304x16x2x16) slices_S8x2304x16x2x16_S8x2304x16x1x16_0_0_0_0_0)⟩] concatenates_S8x2304x16x1x16_S8x2304x16x1x16_S8x2304x16x2x16_d3) shapeCasts_S8x2304x16x2x16_S8x2304x4x128)

/-- Normed queries `U` turned by the tables `c` and `s`, and scaled. -/
def turned (U : FVec Ideal S8x2304x4x2x64 .f32) (c s : FVec Ideal S2304x128 .f32) : FVec Ideal S8x2304x512 .bf16 :=
  truncf (F := Ideal) .bf16 (shapeCast _ (mulf (addf (mulf (shapeCast _ U shapeCasts_S8x2304x4x2x64_S8x2304x4x128) (broadcastInDim S8x2304x4x128 ![0, 1, 2, 3] bcast_S1x2304x1x128_S8x2304x4x128_0_1_2_3 (broadcastInDim S1x2304x1x128 ![1, 2, 3] bcast_S2304x1x128_S1x2304x1x128_1_2_3 (broadcastInDim S2304x1x128 ![0, 2] bcast_S2304x128_S2304x1x128_0_2 c)))) (mulf (swapped U) (broadcastInDim S8x2304x4x128 ![0, 1, 2, 3] bcast_S1x2304x1x128_S8x2304x4x128_0_1_2_3 (broadcastInDim S1x2304x1x128 ![1, 2, 3] bcast_S2304x1x128_S1x2304x1x128_1_2_3 (broadcastInDim S2304x1x128 ![0, 2] bcast_S2304x128_S2304x1x128_0_2 s))))) (broadcastInDim S8x2304x4x128 ![] bcast_S_S8x2304x4x128 (constant (F := Ideal) S_ .f32 0x3E000000#32))) shapeCasts_S8x2304x4x128_S8x2304x512) bitsLt_bf16_f32

/-- The gains of the queries' norm, as a vector. -/
def head_gains (g : FVec Ideal S1x128 .f32) : FVec Ideal S128 .f32 := shapeCast _ g shapeCasts_S1x128_S128

/-- The reference's queries, over its arguments. -/
def resQ (g : FVec Ideal S1x1024 .f32) (gq : FVec Ideal S1x128 .f32) (c s : FVec Ideal S2304x128 .f32) : FVec Ideal S8x2304x512 .bf16 :=
  turned (normed (queries W (normL X M (gains g)) (normC X M (gains g))) (head_gains gq)) c s

/-- Every run of the reference ends with the named queries. -/
theorem run_queries (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = resQ (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg7)) (m ((c.tc : Thread nD τ).loc main_arg14)) (m ((c.tc : Thread nD τ).loc main_arg15)) :=
  (θ_run _ _ _).mono (fun _ h c => (h c).1) (run m ρ)

theorem head_gains_at (g : FVec Ideal S1x128 .f32) (k : Fin 128) : head_gains g (ix1 k) = g (ix2 0 k) := by
  pointwise [head_gains]

/-- One projected query: the batch item's modulation in a latent row, the ninth in a context row. -/
theorem queries_at (b : Fin 8) (b' : Fin 16) (i : Fin 2304) (j : Fin 512) (hb : b'.val = if i.val < 2048 then b.val else 8) :
    queries W (normL X M G) (normC X M G) (ix3 b i j) = projected X M G b b' i (fun k => W (ix2 k ⟨j.val, by omega⟩)) := by
  refine by_rows (fun b b' i => queries W (normL X M G) (normC X M G) (ix3 b i j) = projected X M G b b' i (fun k => W (ix2 k ⟨j.val, by omega⟩)))
    (fun b i => ?_) (fun b r => ?_) b b' i hb
  · pointwise [queries]
    simp only [normL_at]
    rfl
  · pointwise [queries]
    simp only [normC_at]
    rfl

/-- One normed lane. -/
theorem normed_at (Q : FVec Ideal S8x2304x512 .f32) (g : FVec Ideal S128 .f32) (b : Fin 8) (i : Fin 2304) (q : Fin 4) (h : Fin 2) (j : Fin 64) :
    normed Q g (ix5 b i q h j) = Heads.unit (fun k => Q (ix3 b i ⟨128 * q.val + k.val, by omega⟩)) (fun k => g (ix1 k)) ⟨64 * h.val + j.val, by omega⟩ := by
  pointwise [normed]
  have e : ∀ k : Fin 64, Q (ix3 b i ⟨q.val * 128 + h.val * 64 + k.val, by omega⟩)
      = Q (ix3 b i ⟨128 * q.val + (64 * ((64 * h.val + j.val) / 64) + k.val), by omega⟩) := fun k =>
    congrArg Q ((ix3_inj ..).2 ⟨rfl, rfl, Fin.ext (by dsimp only; omega)⟩)
  refine congrArg₂ (· * ·) (congrArg₂ (· * ·) (congrArg Q ((ix3_inj ..).2 ⟨rfl, rfl, Fin.ext (by dsimp only; omega)⟩))
    (congrArg (fun z => Ideal.rsqrt (Ideal.div z _ + _)) (Finset.sum_congr rfl fun k _ => congrArg₂ (· * ·) (e k) (e k)))) ?_
  exact congrArg g (congrArg ix1 (Fin.ext (by dsimp only; omega)))

/-- One lane turned. -/
theorem turned_at (U : FVec Ideal S8x2304x4x2x64 .f32) (c s : FVec Ideal S2304x128 .f32) (b : Fin 8) (i : Fin 2304) (q : Fin 4) (d : Fin 128) :
    turned U c s (ix3 b i ⟨128 * q.val + d.val, by omega⟩)
      = Heads.turn (fun k => U (ix5 b i q ⟨k.val / 64, by omega⟩ ⟨k.val % 64, by omega⟩)) (fun k => c (ix2 i k)) (fun k => s (ix2 i k)) d
        * Ideal.ofBits .f32 0x3E000000#32 := by
  pointwise [turned, swapped, Heads.turn]
  refine congrArg (· * _) (congrArg (_ + ·) (congrArg (· * _) ?_))
  split_ifs
  all_goals
    refine congrArg U ((ix5_inj ..).2 ⟨rfl, rfl, rfl, Fin.ext ?_, Fin.ext ?_⟩)
    all_goals
      dsimp only [Heads.partner]
      split_ifs <;> omega

/-- One lane of the reference's queries. -/
theorem resQ_at (g : FVec Ideal S1x1024 .f32) (gq : FVec Ideal S1x128 .f32) (c s : FVec Ideal S2304x128 .f32) (b : Fin 8) (b' : Fin 16)
    (i : Fin 2304) (q : Fin 4) (d : Fin 128) (hb : b'.val = if i.val < 2048 then b.val else 8) :
    resQ X M W g gq c s (ix3 b i ⟨128 * q.val + d.val, by omega⟩)
      = Heads.lane (fun k => projected X M (gains g) b b' i (fun l => W (ix2 l ⟨128 * q.val + k.val, by omega⟩))) (fun k => gq (ix2 0 k))
          (fun k => c (ix2 i k)) (fun k => s (ix2 i k)) d := by
  refine (turned_at _ c s b i q d).trans (congrArg (fun x => Heads.turn x _ _ d * _) (funext fun k => (normed_at _ _ b i q _ _).trans ?_))
  have e : (⟨64 * (k.val / 64) + k.val % 64, by omega⟩ : Fin 128) = k := Fin.ext (by dsimp only; omega)
  refine (congrArg (Heads.unit _ _) e).trans ?_
  exact congrArg₂ (fun x y => Heads.unit x y k) (funext fun l => queries_at X M (gains g) W b b' i _ hb) (funext fun l => head_gains_at gq l)

end Cert.InRefIdeal.Value

end
-- ==== Proof.InBlock.lean ====
/-
  What one grid point of the input projection leaves in the blocks of the values, of the latent attention's values and of the
  Fourier mixing's input.
-/
module

public import proofs.«01_k».proof.Proof.Layer
public import proofs.«01_k».proof.Proof.Gen.InIdeal.Value
public import Idealize.ShloMosaic.Lib.Pipeline.ValueKit
public import Idealize.ShloMosaic.Lib.Pointwise

@[expose] public section

set_option maxRecDepth 16384

noncomputable section

namespace Cert.InIdeal.Block

open Cert.InIdeal Cert.InIdeal.Gen Layer Idealize.ShloMosaic Idealize.ShloMosaic.TcCoe Idealize.SL.Sem

variable (x0 : FVec Ideal S1x256x1024 .f32) (x1 : FVec Ideal S1x6x1024 .f32) (x2 : FVec Ideal S1x1024 .f32)
  (x3 : FVec Ideal S1024x2048 .bf16) (x4 : FVec Ideal S384x1024 .bf16) (x5 x6 : FVec Ideal S256x1024 .bf16)
  (x7 x8 : FVec Ideal S1x128 .f32) (x9 : FVec Ideal S1x384 .f32) (x10 : FVec Ideal S1x256 .f32)
  (x11 x12 x13 : FVec Ideal S1x128 .f32) (x14 x15 x16 x17 : FVec Ideal S256x128 .f32)

/-- The projection of a block's row `r` on column `n` of the weights. -/
def row (r : Fin 256) (n : Fin 2048) : EReal :=
  project (fun k => x0 (ix3 0 r k)) (fun k => x2 (ix2 0 k)) (fun k => x1 (ix3 0 1 k)) (fun k => x1 (ix3 0 0 k)) (fun k => x3 (ix2 k n))

/-- One element of the projection that the body computes. -/
theorem row_at (r : Fin 256) (n : Fin 2048) : k0_pay3 (F := Ideal) x0 x1 x2 x3 (ix2 r n) = row x0 x1 x2 x3 r n := by
  pointwise [k0_pay3, row, project, Layer.norm]

/-- One element of the Fourier mixing's input. -/
theorem features_at (y : S1x256x512.Idx) (r : Fin 256) (j : Fin 512) (hy : y = ix3 0 r j) :
    out0_24 (F := Ideal) x0 x1 x2 x3 x4 x5 x6 x7 x8 x9 x10 x11 x12 x13 x14 x15 x16 x17 y = row x0 x1 x2 x3 r ⟨1408 + j.val, by omega⟩ := by
  subst hy
  unfold_out out0_24
  frame_out
  pointwise [k0_pay2, row_at]

/-- One element of the latent attention's values. -/
theorem expanded_at (y : S1x256x1024.Idx) (r : Fin 256) (j : Fin 1024) (hy : y = ix3 0 r j) :
    out0_23 (F := Ideal) x0 x1 x2 x3 x4 x5 x6 x7 x8 x9 x10 x11 x12 x13 x14 x15 x16 x17 y
      = expand (fun k => row x0 x1 x2 x3 r ⟨1152 + k.val, by omega⟩) (fun k => x10 (ix2 0 k)) (fun k => x6 (ix2 k j)) := by
  subst hy
  unfold_out out0_23
  frame_out
  pointwise [k0_pay1, k0_pay73, row_at, expand]

/-- The mask of the low lanes. -/
theorem low (n : ℕ) (h : n < 128) :
    FloatOps.sitofp (F := Ideal) FTy.f32 (BitVec.setWidth 32 (IntOp.cmpi CmpIPredicate.slt (BitVec.ofNat 32 n) 64#32))
      = if n < 64 then (1 : EReal) else 0 := by
  have e : ∀ k : Fin 128, BitVec.setWidth 32 (IntOp.cmpi CmpIPredicate.slt (BitVec.ofNat 32 k.val) 64#32) = if k.val < 64 then 1#32 else 0#32 := by
    decide +kernel
  rw [e ⟨n, h⟩]
  split_ifs
  · show (((1 : ℤ) : ℝ) : EReal) = 1
    norm_num
  · show (((0 : ℤ) : ℝ) : EReal) = 0
    norm_num

/-- One element of the values: the head's lane in the half of the form's parity, zero in the other. -/
theorem values_at (y : S1x256x512.Idx) (q : Fin 4) (d : Fin 128) (r : Fin 256) (hr : y 1 = r) (hy : (y 2 : ℕ) = 128 * q + d) :
    out0_20 (F := Ideal) x0 x1 x2 x3 x4 x5 x6 x7 x8 x9 x10 x11 x12 x13 x14 x15 x16 x17 y
      = if d.val / 64 = q.val % 2 then row x0 x1 x2 x3 r ⟨640 + (64 * (q.val / 2) + d.val % 64), by omega⟩ else 0 := by
  unfold_out out0_20
  frame_out
  canon_tiles y hy
  all_goals pointwise [k0_pay25, k0_pay33, k0_pay34, k0_pay35, k0_pay36, k0_pay37, k0_pay4, k0_pay6, row_at]
  all_goals
    rw [low _ (y 2).isLt]
    have hq : q.val < 4 := q.isLt
    have hd : d.val < 128 := d.isLt
    split_ifs
    all_goals first
      | (exfalso; omega)
      | (simp only [sub_zero, mul_one]
         obtain rfl : y 1 = r := by rw [← hr]; exact Fin.ext hy1.symm
         exact congrArg (row x0 x1 x2 x3 (y 1)) (Fin.ext (by dsimp only; omega)))
      | (rw [mul_zero])
      | (rw [show (1 : EReal) - 1 = 0 from EReal.sub_self (EReal.coe_ne_top 1) (EReal.coe_ne_bot 1), mul_zero])

end Cert.InIdeal.Block

end
-- ==== Proof.InQueryBlock.lean ====
/-
  What one grid point of the input projection leaves in the block of the queries.
-/
module

public import proofs.«01_k».proof.Proof.Heads
public import proofs.«01_k».proof.Proof.InBlock
public import proofs.«01_k».proof.Proof.Gen.InIdeal.Value
public import Idealize.ShloMosaic.Lib.Pipeline.ValueKit
public import Idealize.ShloMosaic.Lib.Pointwise

@[expose] public section

set_option maxRecDepth 16384

noncomputable section

namespace Cert.InIdeal.Block

open Cert.InIdeal Cert.InIdeal.Gen Layer Idealize.ShloMosaic Idealize.ShloMosaic.TcCoe Idealize.SL.Sem

variable (x0 : FVec Ideal S1x256x1024 .f32) (x1 : FVec Ideal S1x6x1024 .f32) (x2 : FVec Ideal S1x1024 .f32)
  (x3 : FVec Ideal S1024x2048 .bf16) (x4 : FVec Ideal S384x1024 .bf16) (x5 x6 : FVec Ideal S256x1024 .bf16)
  (x7 x8 : FVec Ideal S1x128 .f32) (x9 : FVec Ideal S1x384 .f32) (x10 : FVec Ideal S1x256 .f32)
  (x11 x12 x13 : FVec Ideal S1x128 .f32) (x14 x15 x16 x17 : FVec Ideal S256x128 .f32)

/-- The mask of the low lanes, as the body computes it. -/
def mask (k : Fin 128) : EReal :=
  FloatOps.sitofp (F := Ideal) FTy.f32 (BitVec.setWidth 32 (IntOp.cmpi CmpIPredicate.slt (BitVec.ofNat 32 k.val) 64#32))

/-- Lane `d` of two heads, normed as the body norms them. -/
def scaled (x g : Fin 128 → EReal) (d : Fin 128) : EReal :=
  x d * (Ideal.rsqrt ((∑ k, x k * x k * mask k) * Ideal.ofBits .f32 0x3C800000#32 + Ideal.ofBits .f32 0x358637BD#32) * mask d
    + Ideal.rsqrt ((∑ k, x k * x k * (1 - mask k)) * Ideal.ofBits .f32 0x3C800000#32 + Ideal.ofBits .f32 0x358637BD#32) * (1 - mask d)) * g d

/-- The body's choice between the two rotations. -/
theorem choice (d : Fin 128) (a b : EReal) :
    Scalar.select (IntOp.cmpi CmpIPredicate.slt (IntOp.andi (BitVec.ofNat 32 d.val) 31#32) 16#32) a b = if d.val % 32 < 16 then a else b := by
  have e : ∀ k : Fin 128, IntOp.cmpi CmpIPredicate.slt (IntOp.andi (BitVec.ofNat 32 k.val) 31#32) 16#32 = if k.val % 32 < 16 then 1#1 else 0#1 := by
    decide +kernel
  rw [e d]
  split_ifs <;> rfl

/-- The body's lane, with its two rotations, is the lane of the two heads. -/
theorem lane_eq (x g c s : Fin 128 → EReal) (d : Fin 128) :
    (scaled x g d * c d + Scalar.select (IntOp.cmpi CmpIPredicate.slt (IntOp.andi (BitVec.ofNat 32 d.val) 31#32) 16#32)
        (scaled x g ⟨(d.val + 128 - 112) % 128, by omega⟩) (scaled x g ⟨(d.val + 128 - 16) % 128, by omega⟩) * s d)
      * Ideal.ofBits .f32 0x3E000000#32 = Heads.lane x g c s d := by
  have e : ∀ k, scaled x g k = Heads.unit x g k := Heads.masked x g mask fun k => low k.val k.isLt
  rw [choice, e, e, e]
  refine congrArg (· * _) (congrArg (_ + ·) (congrArg (· * _) ?_))
  split_ifs with h
  · exact congrArg (Heads.unit x g) (Fin.ext (by dsimp only [Heads.partner]; rw [if_pos h]; omega))
  · exact congrArg (Heads.unit x g) (Fin.ext (by dsimp only [Heads.partner]; rw [if_neg h]; omega))

/-- The same over a block's row, with the lanes' columns named by `f`. -/
theorem lane_row (q : Fin 4) (r r' : Fin 256) (d d' : Fin 128) (hr : r'.val = r.val) (hd : d'.val = d.val) (f : Fin 128 → Fin 2048)
    (hf : ∀ k, (f k).val = 128 * q.val + k.val) :
    Heads.lane (fun k => row x0 x1 x2 x3 r' (f k)) (fun k => x7 (ix2 0 k)) (fun k => x14 (ix2 r' k)) (fun k => x15 (ix2 r' k)) d'
      = Heads.lane (fun k => row x0 x1 x2 x3 r ⟨128 * q.val + k.val, by omega⟩) (fun k => x7 (ix2 0 k)) (fun k => x14 (ix2 r k))
          (fun k => x15 (ix2 r k)) d := by
  obtain rfl : r' = r := Fin.ext hr
  obtain rfl : d' = d := Fin.ext hd
  exact Heads.lane_congr (fun k => congrArg (row x0 x1 x2 x3 r') (Fin.ext (hf k))) (fun _ => rfl) (fun _ => rfl) (fun _ => rfl) d'

set_option maxHeartbeats 1600000 in
/-- One element of the queries. -/
theorem queries_at (y : S1x256x512.Idx) (q : Fin 4) (d : Fin 128) (r : Fin 256) (hr : y 1 = r) (hy : (y 2 : ℕ) = 128 * q + d) :
    out0_18 (F := Ideal) x0 x1 x2 x3 x4 x5 x6 x7 x8 x9 x10 x11 x12 x13 x14 x15 x16 x17 y
      = Heads.lane (fun k => row x0 x1 x2 x3 r ⟨128 * q.val + k.val, by omega⟩) (fun k => x7 (ix2 0 k)) (fun k => x14 (ix2 r k))
          (fun k => x15 (ix2 r k)) d := by
  unfold_out out0_18
  frame_out
  canon_tiles y hy
  all_goals
    pointwise [k0_pay4, k0_pay6, k0_pay7, k0_pay8, k0_pay9, k0_pay10, k0_pay11, k0_pay12, k0_pay13, k0_pay14, k0_pay15, k0_pay16, k0_pay17, k0_pay18, k0_pay19, row_at]
    have er : (y 1).val = r.val := by rw [← hr]; exact hy1.symm
    have hq : q.val < 4 := q.isLt
    have hd : d.val < 128 := d.isLt
  · exact (lane_eq (fun k => row x0 x1 x2 x3 (y 1) ⟨384 + k.val, by omega⟩) (fun k => x7 (ix2 0 k)) (fun k => x14 (ix2 (y 1) k)) (fun k => x15 (ix2 (y 1) k)) (y 2)).trans
      (lane_row x0 x1 x2 x3 x7 x14 x15 q r (y 1) d (y 2) er (by omega) _ (fun k => by dsimp only; omega))
  · exact (lane_eq (fun k => row x0 x1 x2 x3 (y 1) ⟨256 + k.val, by omega⟩) (fun k => x7 (ix2 0 k)) (fun k => x14 (ix2 (y 1) k)) (fun k => x15 (ix2 (y 1) k)) (y 2)).trans
      (lane_row x0 x1 x2 x3 x7 x14 x15 q r (y 1) d (y 2) er (by omega) _ (fun k => by dsimp only; omega))
  · exact (lane_eq (fun k => row x0 x1 x2 x3 (y 1) ⟨128 + k.val, by omega⟩) (fun k => x7 (ix2 0 k)) (fun k => x14 (ix2 (y 1) k)) (fun k => x15 (ix2 (y 1) k)) (y 2)).trans
      (lane_row x0 x1 x2 x3 x7 x14 x15 q r (y 1) d (y 2) er (by omega) _ (fun k => by dsimp only; omega))
  · exact (lane_eq (fun k => row x0 x1 x2 x3 (y 1) ⟨k.val, by omega⟩) (fun k => x7 (ix2 0 k)) (fun k => x14 (ix2 (y 1) k)) (fun k => x15 (ix2 (y 1) k)) (y 2)).trans
      (lane_row x0 x1 x2 x3 x7 x14 x15 q r (y 1) d (y 2) er (by omega) _ (fun k => by dsimp only; omega))

end Cert.InIdeal.Block

end
-- ==== Proof.InArray.lean ====
/-
  What the input projection leaves in its arrays of values, of the latent attention's values and of the Fourier mixing's input: the
  reference's results, over the call's own arguments.
-/
module

public import proofs.«01_k».proof.Proof.InReference
public import proofs.«01_k».proof.Proof.InBlock
public import Idealize.ShloMosaic.Lib.Claim

@[expose] public section

set_option maxRecDepth 16384

noncomputable section

namespace Cert.InIdeal.Array

open Cert.InIdeal Cert.InIdeal.Gen Layer Idealize.ShloMosaic Idealize.ShloMosaic.TcCoe Idealize.SL.Sem

variable (m : (ℓ : Loc nD τ sig) → Buf (Elt Ideal) ℓ)

/-- The windows' block indices: batch item `t / 9` and tile `t % 9` of the rows, the batch item's modulation for a latent tile and
    the ninth for the context tile, the weights whole. -/
theorem idx : ∀ t : Fin cfg0.N, win0_0.index t = ![t.val / 9, t.val % 9, 0]
    ∧ win0_1.index t = ![if t.val % 9 < 8 then t.val / 9 else 8, 0, 0] ∧ win0_2.index t = ![0, 0] ∧ win0_3.index t = ![0, 0]
    ∧ win0_6.index t = ![0, 0] ∧ win0_10.index t = ![0, 0] ∧ win0_20.index t = ![t.val / 9, t.val % 9, 0]
    ∧ win0_23.index t = ![t.val / 9, t.val % 9, 0] ∧ win0_24.index t = ![t.val / 9, t.val % 9, 0] :=
  (by decide +kernel : ∀ t : Fin grid0.N, _)

theorem row_block (c : Dev nD) (t : Fin cfg0.N) (b : Fin 8) (i : Fin 2304) (r : Fin 256) (k : Fin 1024)
    (hb : b.val = t.val / 9) (hi : i.val = 256 * (t.val % 9) + r.val) :
    (show FVec Ideal S1x256x1024 .f32 from iblk m c 0 t) (ix3 0 r k)
      = (show FVec Ideal S8x2304x1024 .f32 from m ((c : Thread nD τ).loc main_arg0)) (ix3 b i k) := by
  blk_point [iblk, V, idx t]

theorem mod_block (c : Dev nD) (t : Fin cfg0.N) (b : Fin 16) (e : Fin 6) (k : Fin 1024)
    (hb : b.val = if t.val % 9 < 8 then t.val / 9 else 8) :
    (show FVec Ideal S1x6x1024 .f32 from iblk m c 1 t) (ix3 0 e k)
      = (show FVec Ideal S16x6x1024 .f32 from m ((c : Thread nD τ).loc main_arg1)) (ix3 b e k) := by
  blk_point [iblk, V, idx t]

theorem gain_block (c : Dev nD) (t : Fin cfg0.N) (k : Fin 1024) :
    (show FVec Ideal S1x1024 .f32 from iblk m c 2 t) (ix2 0 k)
      = (show FVec Ideal S1x1024 .f32 from m ((c : Thread nD τ).loc main_arg2)) (ix2 0 k) := by
  blk_point [iblk, V, idx t]

theorem weight_block (c : Dev nD) (t : Fin cfg0.N) (k : Fin 1024) (l : Fin 2048) :
    (show FVec Ideal S1024x2048 .bf16 from iblk m c 3 t) (ix2 k l)
      = (show FVec Ideal S1024x2048 .bf16 from m ((c : Thread nD τ).loc main_arg3)) (ix2 k l) := by
  blk_point [iblk, V, idx t]

theorem expansion_block (c : Dev nD) (t : Fin cfg0.N) (k : Fin 256) (l : Fin 1024) :
    (show FVec Ideal S256x1024 .bf16 from iblk m c 6 t) (ix2 k l)
      = (show FVec Ideal S256x1024 .bf16 from m ((c : Thread nD τ).loc main_arg6)) (ix2 k l) := by
  blk_point [iblk, V, idx t]

theorem latent_gain_block (c : Dev nD) (t : Fin cfg0.N) (k : Fin 256) :
    (show FVec Ideal S1x256 .f32 from iblk m c 10 t) (ix2 0 k)
      = (show FVec Ideal S1x256 .f32 from m ((c : Thread nD τ).loc main_arg10)) (ix2 0 k) := by
  blk_point [iblk, V, idx t]

/-- The modulation row of a row's tile is the one the reference takes for the row. -/
theorem modulation_row (t : ℕ) (b : ℕ) (i r : ℕ) (hr : r < 256) (hb : b = t / 9) (hi : i = 256 * (t % 9) + r) :
    (if t % 9 < 8 then t / 9 else 8) = if i < 2048 then b else 8 := by
  split_ifs <;> omega

/-- A block's projected row is the reference's. -/
theorem row_eq (c : Dev nD) (t : Fin cfg0.N) (b : Fin 8) (b' : Fin 16) (i : Fin 2304) (r : Fin 256) (n : Fin 2048)
    (hb : b.val = t.val / 9) (hb' : b'.val = if t.val % 9 < 8 then t.val / 9 else 8) (hi : i.val = 256 * (t.val % 9) + r.val) :
    Block.row (iblk m c 0 t) (iblk m c 1 t) (iblk m c 2 t) (iblk m c 3 t) r n
      = Cert.InRefIdeal.Value.projected (m ((c : Thread nD τ).loc main_arg0)) (m ((c : Thread nD τ).loc main_arg1))
          (Cert.InRefIdeal.Value.gains (m ((c : Thread nD τ).loc main_arg2))) b b' i
          (fun k => (show FVec Ideal S1024x2048 .bf16 from m ((c : Thread nD τ).loc main_arg3)) (ix2 k n)) :=
  project_congr (fun k => row_block m c t b i r k hb hi)
    (fun k => (gain_block m c t k).trans (Cert.InRefIdeal.Value.gains_at _ k).symm)
    (fun k => mod_block m c t b' 1 k hb') (fun k => mod_block m c t b' 0 k hb') (fun k => weight_block m c t k n)

/-- THE FOURIER MIXING'S INPUT. -/
theorem final_features (c : Dev nD) :
    (dats m 0 c).arrAt 24 (cfgs 0).N
      = Cert.InRefIdeal.Value.resF (m ((c : Thread nD τ).loc main_arg0)) (m ((c : Thread nD τ).loc main_arg1))
          (m ((c : Thread nD τ).loc main_arg3)) (m ((c : Thread nD τ).loc main_arg2)) := by
  refine (dats m 0 c).arrAt_eq_of_covers 24 _ (by decide +kernel) fun t _ y => ?_
  blk_simp
  rw [after0_24]
  have hN : t.val < 72 := t.isLt
  have h0 : (y 0).val < 1 := (y 0).isLt
  have h1 : (y 1).val < 256 := (y 1).isLt
  have h2 : (y 2).val < 512 := (y 2).isLt
  have e : (win0_24.blk t).view.emb y = (ix3 (⟨t.val / 9, by omega⟩ : Fin 8) (⟨256 * (t.val % 9) + (y 1).val, by omega⟩ : Fin 2304)
      (⟨(y 2).val, h2⟩ : Fin 512) : S8x2304x512.Idx) := by
    blk_ext [idx t]
  have ey : y = (ix3 (0 : Fin 1) (⟨(y 1).val, h1⟩ : Fin 256) (⟨(y 2).val, h2⟩ : Fin 512) : S1x256x512.Idx) := by
    blk_ext
  rw [e]
  refine (Block.features_at _ _ _ _ _ _ _ _ _ _ _ _ _ _ _ _ _ _ y _ _ ey).trans ?_
  refine (row_eq m c t ⟨t.val / 9, by omega⟩ ⟨if t.val % 9 < 8 then t.val / 9 else 8, by split_ifs <;> omega⟩
    ⟨256 * (t.val % 9) + (y 1).val, by omega⟩ _ _ rfl rfl rfl).trans ?_
  exact (Cert.InRefIdeal.Value.features_at _ _ _ _ _ _ _ _ (modulation_row t.val _ _ _ h1 rfl rfl)).symm

/-- THE LATENT ATTENTION'S VALUES. -/
theorem final_expanded (c : Dev nD) :
    (dats m 0 c).arrAt 23 (cfgs 0).N
      = Cert.InRefIdeal.Value.resL (m ((c : Thread nD τ).loc main_arg0)) (m ((c : Thread nD τ).loc main_arg1))
          (m ((c : Thread nD τ).loc main_arg3)) (m ((c : Thread nD τ).loc main_arg2)) (m ((c : Thread nD τ).loc main_arg10))
          (m ((c : Thread nD τ).loc main_arg6)) := by
  refine (dats m 0 c).arrAt_eq_of_covers 23 _ (by decide +kernel) fun t _ y => ?_
  blk_simp
  rw [after0_23]
  have hN : t.val < 72 := t.isLt
  have h0 : (y 0).val < 1 := (y 0).isLt
  have h1 : (y 1).val < 256 := (y 1).isLt
  have h2 : (y 2).val < 1024 := (y 2).isLt
  have e : (win0_23.blk t).view.emb y = (ix3 (⟨t.val / 9, by omega⟩ : Fin 8) (⟨256 * (t.val % 9) + (y 1).val, by omega⟩ : Fin 2304)
      (⟨(y 2).val, h2⟩ : Fin 1024) : S8x2304x1024.Idx) := by
    blk_ext [idx t]
  have ey : y = (ix3 (0 : Fin 1) (⟨(y 1).val, h1⟩ : Fin 256) (⟨(y 2).val, h2⟩ : Fin 1024) : S1x256x1024.Idx) := by
    blk_ext
  rw [e]
  refine (Block.expanded_at _ _ _ _ _ _ _ _ _ _ _ _ _ _ _ _ _ _ y _ _ ey).trans ?_
  refine (expand_congr (fun k => ?_) (fun k => ?_) (fun k => expansion_block m c t k _)).trans
    (Cert.InRefIdeal.Value.expanded_at _ _ _ _ _ _).symm
  · refine (row_eq m c t ⟨t.val / 9, by omega⟩ ⟨if t.val % 9 < 8 then t.val / 9 else 8, by split_ifs <;> omega⟩
      ⟨256 * (t.val % 9) + (y 1).val, by omega⟩ _ _ rfl rfl rfl).trans ?_
    exact (Cert.InRefIdeal.Value.compressed_at _ _ _ _ _ _ _ _ (modulation_row t.val _ _ _ h1 rfl rfl)).symm
  · exact (latent_gain_block m c t k).trans (Cert.InRefIdeal.Value.gains'_at _ k).symm

/-- THE VALUES in their forms. -/
theorem final_values (c : Dev nD) :
    (dats m 0 c).arrAt 20 (cfgs 0).N
      = Cert.InRefIdeal.Value.resV (m ((c : Thread nD τ).loc main_arg0)) (m ((c : Thread nD τ).loc main_arg1))
          (m ((c : Thread nD τ).loc main_arg3)) (m ((c : Thread nD τ).loc main_arg2)) := by
  refine (dats m 0 c).arrAt_eq_of_covers 20 _ (by decide +kernel) fun t _ y => ?_
  blk_simp
  rw [after0_20]
  have hN : t.val < 72 := t.isLt
  have h0 : (y 0).val < 1 := (y 0).isLt
  have h1 : (y 1).val < 256 := (y 1).isLt
  have h2 : (y 2).val < 512 := (y 2).isLt
  have e : (win0_20.blk t).view.emb y = (ix3 (⟨t.val / 9, by omega⟩ : Fin 8) (⟨256 * (t.val % 9) + (y 1).val, by omega⟩ : Fin 2304)
      (⟨128 * (⟨(y 2).val / 128, by omega⟩ : Fin 4).val + (⟨(y 2).val % 128, by omega⟩ : Fin 128).val, by dsimp only; omega⟩ : Fin 512) : S8x2304x512.Idx) := by
    blk_ext [idx t]
  rw [e]
  refine (Block.values_at _ _ _ _ _ _ _ _ _ _ _ _ _ _ _ _ _ _ y ⟨(y 2).val / 128, by omega⟩ ⟨(y 2).val % 128, by omega⟩ ⟨(y 1).val, h1⟩ rfl
    (by dsimp only; omega)).trans ?_
  refine Eq.trans ?_ (Cert.InRefIdeal.Value.forms_at _ _ _ _ _).symm
  refine if_congr Iff.rfl ?_ rfl
  refine (row_eq m c t ⟨t.val / 9, by omega⟩ ⟨if t.val % 9 < 8 then t.val / 9 else 8, by split_ifs <;> omega⟩
    ⟨256 * (t.val % 9) + (y 1).val, by omega⟩ _ _ rfl rfl rfl).trans ?_
  exact (Cert.InRefIdeal.Value.values_at _ _ _ _ ⟨t.val / 9, by omega⟩ ⟨if t.val % 9 < 8 then t.val / 9 else 8, by split_ifs <;> omega⟩
    ⟨256 * (t.val % 9) + (y 1).val, by omega⟩ ⟨64 * ((y 2).val / 128 / 2) + (y 2).val % 128 % 64, by omega⟩ (modulation_row t.val _ _ _ h1 rfl rfl)).symm

end Cert.InIdeal.Array

end
-- ==== Proof.InQueryArray.lean ====
/-
  What the input projection leaves in its array of queries: the reference's queries, over the call's own arguments.
-/
module

public import proofs.«01_k».proof.Proof.InQueryReference
public import proofs.«01_k».proof.Proof.InQueryBlock
public import proofs.«01_k».proof.Proof.InArray
public import Idealize.ShloMosaic.Lib.Claim

@[expose] public section

set_option maxRecDepth 16384

noncomputable section

namespace Cert.InIdeal.Array

open Cert.InIdeal Cert.InIdeal.Gen Layer Idealize.ShloMosaic Idealize.ShloMosaic.TcCoe Idealize.SL.Sem

variable (m : (ℓ : Loc nD τ sig) → Buf (Elt Ideal) ℓ)

/-- The windows' block indices: the queries' by batch item and tile, the gains whole, the tables by tile. -/
theorem idx_queries : ∀ t : Fin cfg0.N, win0_7.index t = ![0, 0] ∧ win0_14.index t = ![t.val % 9, 0] ∧ win0_15.index t = ![t.val % 9, 0]
    ∧ win0_18.index t = ![t.val / 9, t.val % 9, 0] :=
  (by decide +kernel : ∀ t : Fin grid0.N, _)

theorem head_gain_block (c : Dev nD) (t : Fin cfg0.N) (k : Fin 128) :
    (show FVec Ideal S1x128 .f32 from iblk m c 7 t) (ix2 0 k)
      = (show FVec Ideal S1x128 .f32 from m ((c : Thread nD τ).loc main_arg7)) (ix2 0 k) := by
  blk_point [iblk, V, idx_queries t]

theorem cosine_block (c : Dev nD) (t : Fin cfg0.N) (i : Fin 2304) (r : Fin 256) (k : Fin 128) (hi : i.val = 256 * (t.val % 9) + r.val) :
    (show FVec Ideal S256x128 .f32 from iblk m c 14 t) (ix2 r k)
      = (show FVec Ideal S2304x128 .f32 from m ((c : Thread nD τ).loc main_arg14)) (ix2 i k) := by
  blk_point [iblk, V, idx_queries t]

theorem sine_block (c : Dev nD) (t : Fin cfg0.N) (i : Fin 2304) (r : Fin 256) (k : Fin 128) (hi : i.val = 256 * (t.val % 9) + r.val) :
    (show FVec Ideal S256x128 .f32 from iblk m c 15 t) (ix2 r k)
      = (show FVec Ideal S2304x128 .f32 from m ((c : Thread nD τ).loc main_arg15)) (ix2 i k) := by
  blk_point [iblk, V, idx_queries t]

/-- THE QUERIES. -/
theorem final_queries (c : Dev nD) :
    (dats m 0 c).arrAt 18 (cfgs 0).N
      = Cert.InRefIdeal.Value.resQ (m ((c : Thread nD τ).loc main_arg0)) (m ((c : Thread nD τ).loc main_arg1))
          (m ((c : Thread nD τ).loc main_arg3)) (m ((c : Thread nD τ).loc main_arg2)) (m ((c : Thread nD τ).loc main_arg7))
          (m ((c : Thread nD τ).loc main_arg14)) (m ((c : Thread nD τ).loc main_arg15)) := by
  refine (dats m 0 c).arrAt_eq_of_covers 18 _ (by decide +kernel) fun t _ y => ?_
  blk_simp
  rw [after0_18]
  have hN : t.val < 72 := t.isLt
  have h0 : (y 0).val < 1 := (y 0).isLt
  have h1 : (y 1).val < 256 := (y 1).isLt
  have h2 : (y 2).val < 512 := (y 2).isLt
  have e : (win0_18.blk t).view.emb y = (ix3 (⟨t.val / 9, by omega⟩ : Fin 8) (⟨256 * (t.val % 9) + (y 1).val, by omega⟩ : Fin 2304)
      (⟨128 * (⟨(y 2).val / 128, by omega⟩ : Fin 4).val + (⟨(y 2).val % 128, by omega⟩ : Fin 128).val, by dsimp only; omega⟩ : Fin 512) : S8x2304x512.Idx) := by
    blk_ext [idx_queries t]
  rw [e]
  refine (Block.queries_at _ _ _ _ _ _ _ _ _ _ _ _ _ _ _ _ _ _ y ⟨(y 2).val / 128, by omega⟩ ⟨(y 2).val % 128, by omega⟩ ⟨(y 1).val, h1⟩ rfl
    (by dsimp only; omega)).trans ?_
  refine Eq.trans ?_ (Cert.InRefIdeal.Value.resQ_at _ _ _ _ _ _ _ _ ⟨if t.val % 9 < 8 then t.val / 9 else 8, by split_ifs <;> omega⟩ _ _ _
    (modulation_row t.val _ _ _ h1 rfl rfl)).symm
  exact Heads.lane_congr
    (fun k => row_eq m c t ⟨t.val / 9, by omega⟩ ⟨if t.val % 9 < 8 then t.val / 9 else 8, by split_ifs <;> omega⟩
      ⟨256 * (t.val % 9) + (y 1).val, by omega⟩ _ _ rfl rfl rfl)
    (fun k => head_gain_block m c t k) (fun k => cosine_block m c t _ _ k rfl) (fun k => sine_block m c t _ _ k rfl) _

end Cert.InIdeal.Array

end
-- ==== Proof.InClaim.lean ====
/-
  The claims about four results of the input projection: the three frames, that the idealization changes nothing, and that kernel and
  reference end with the same results.
-/
module

public import proofs.«01_k».proof.Defs
public import Idealize.ShloMosaic.Lib.Claim
public import proofs.«01_k».proof.Proof.InQueryArray
public import proofs.«01_k».proof.Proof.Gen.In.Frame
public import proofs.«01_k».proof.Proof.Gen.InIdeal.Frame
public import proofs.«01_k».proof.Proof.Gen.InRefIdeal.Run

@[expose] public section

set_option maxRecDepth 16384

noncomputable section

namespace Cert.InClaim

open Idealize.ShloMosaic Idealize.SL.Sem

theorem frame : Cert.quiescent_In := fun m ρ _ => Cert.In.Gen.frame m ρ

theorem frame_ideal : Cert.quiescent_InIdeal := fun m ρ _ => Cert.InIdeal.Gen.frame m ρ

theorem frame_reference : Cert.quiescent_InRefIdeal := by
  intro m g _
  exact (θ_run _ _ _).mono (fun r h => ⟨fun c => (h c).2.2.2.2, sem_eq_zero_of_no_sems (by decide) _⟩) (Cert.InRefIdeal.Value.run m g)

theorem preserves : Cert.preserves_In_InIdeal := trivial

/-- The kernel and the reference end with the same four results. -/
theorem algebraic : Cert.algebraic_InIdeal_InRefIdeal := by
  intro m g m' g' _ hagree
  refine ⟨_, _, _, _,
    θ_run_mono (θ_run_and (Cert.InIdeal.Gen.run_main m g) (Cert.InIdeal.Gen.unchanged m g)) fun r h c =>
      ⟨((h.1 c).1 18).trans (Cert.InIdeal.Array.final_queries m c), ((h.1 c).1 20).trans (Cert.InIdeal.Array.final_values m c), ((h.1 c).1 23).trans (Cert.InIdeal.Array.final_expanded m c),
        ((h.1 c).1 24).trans (Cert.InIdeal.Array.final_features m c), h.2 c⟩,
    θ_run_mono (θ_run_and (Cert.InRefIdeal.Value.run_queries m' g') (θ_run_and (Cert.InRefIdeal.Value.run_named m' g') (Cert.InRefIdeal.Value.run m' g')))
      fun r h c => ?_⟩
  obtain ⟨h0, h1, h2, h3, -, -, h6, h7, -, -, h10, -, -, -, h14, h15, -⟩ := hagree c
  refine ⟨(h.1 c).trans ?_, (h.2.1 c).1.trans ?_, (h.2.1 c).2.1.trans ?_, (h.2.1 c).2.2.trans ?_, (h.2.2 c).2.2.2.2⟩
  · rw [h0, h1, h2, h3, h7, h14, h15]
  · rw [h0, h1, h2, h3]
  · rw [h0, h1, h2, h3, h6, h10]
  · rw [h0, h1, h2, h3]

end Cert.InClaim

end
-- ==== Proof.lean ====
/- The proof of the claims: the facts of each program, then one theorem per claim, in the order of `Cert.Claim`. -/
module

public import proofs.«01_k».proof.Defs
public import proofs.«01_k».proof.Proof.Gen.Gqa
public import proofs.«01_k».proof.Proof.Gen.GqaIdeal
public import proofs.«01_k».proof.Proof.Gen.GqaRefIdeal
public import proofs.«01_k».proof.Proof.Gen.Mla
public import proofs.«01_k».proof.Proof.Gen.MlaIdeal
public import proofs.«01_k».proof.Proof.Gen.MlaRefIdeal
public import proofs.«01_k».proof.Proof.Gen.Ffn
public import proofs.«01_k».proof.Proof.Gen.FfnIdeal
public import proofs.«01_k».proof.Proof.Gen.FfnRefIdeal
public import proofs.«01_k».proof.Proof.Gen.Merge
public import proofs.«01_k».proof.Proof.Gen.MergeIdeal
public import proofs.«01_k».proof.Proof.Gen.MergeRefIdeal
public import proofs.«01_k».proof.Proof.Gen.Mod
public import proofs.«01_k».proof.Proof.Gen.ModIdeal
public import proofs.«01_k».proof.Proof.Gen.ModRefIdeal
public import proofs.«01_k».proof.Proof.Gen.In
public import proofs.«01_k».proof.Proof.Gen.InIdeal
public import proofs.«01_k».proof.Proof.Gen.InRefIdeal
public import proofs.«01_k».proof.Proof.Gen.Pre_gqa_finite
public import proofs.«01_k».proof.Proof.Gen.Pre_mla_finite
public import proofs.«01_k».proof.Proof.GqaClaim
public import proofs.«01_k».proof.Proof.MlaClaim
public import proofs.«01_k».proof.Proof.FfnClaim
public import proofs.«01_k».proof.Proof.MergeClaim
public import proofs.«01_k».proof.Proof.ModClaim
public import proofs.«01_k».proof.Proof.InClaim

@[expose] public section

namespace Cert.Proof

theorem claim : Cert.Claim :=
  ⟨Cert.Gqa.Gen.facts, Cert.GqaIdeal.Gen.facts, Cert.GqaRefIdeal.Gen.facts,
    Cert.Mla.Gen.facts, Cert.MlaIdeal.Gen.facts, Cert.MlaRefIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Mod.Gen.facts, Cert.ModIdeal.Gen.facts, Cert.ModRefIdeal.Gen.facts,
    Cert.In.Gen.facts, Cert.InIdeal.Gen.facts, Cert.InRefIdeal.Gen.facts,
    Cert.Pre_gqa_finite.Gen.facts, Cert.Pre_mla_finite.Gen.facts,
    GqaClaim.frame, GqaClaim.frame_ideal, GqaClaim.frame_ideal_pre, GqaClaim.frame_reference, GqaClaim.frame_reference_pre,
    MlaClaim.frame, MlaClaim.frame_ideal, MlaClaim.frame_ideal_pre, MlaClaim.frame_reference, MlaClaim.frame_reference_pre,
    FfnClaim.frame, FfnClaim.frame_ideal, FfnClaim.frame_reference,
    MergeClaim.frame, MergeClaim.frame_ideal, MergeClaim.frame_reference,
    ModClaim.frame, ModClaim.frame_ideal, ModClaim.frame_reference,
    InClaim.frame, InClaim.frame_ideal, InClaim.frame_reference,
    GqaClaim.preserves, GqaClaim.algebraic,
    MlaClaim.preserves, MlaClaim.algebraic,
    FfnClaim.preserves, FfnClaim.algebraic,
    MergeClaim.preserves, MergeClaim.algebraic,
    ModClaim.preserves, ModClaim.algebraic,
    InClaim.preserves, InClaim.algebraic⟩

end Cert.Proof
